-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v33) = v0 c
          ∧ r.2.mem ((c.tc : Thread Cert.Reference8Ideal.nD Cert.Reference8Ideal.τ).loc Cert.Reference8Ideal.main_v34) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v29) = v0 c
          ∧ r.2.mem ((c.tc : Thread Cert.Reference10Ideal.nD Cert.Reference10Ideal.τ).loc Cert.Reference10Ideal.main_v32) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v21) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite8 : Cert.Pre_finite8.Facts) (hPre_finite9 : Cert.Pre_finite9.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite8.lean ====
abbrev S8192x4096 : Shape := ⟨2, ![8192, 4096]⟩
abbrev S1x4096 : Shape := ⟨2, ![1, 4096]⟩
abbrev S4x1x4096 : Shape := ⟨3, ![4, 1, 4096]⟩
abbrev S16x4096 : Shape := ⟨2, ![16, 4096]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S4x1x4096 : S_.BroadcastsInDim S4x1x4096 (![] : Fin 0 → Fin S4x1x4096.rank)
  reducesTo_S4x1x4096_S_d0_1_2 : S4x1x4096.ReducesTo [0, 1, 2] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  main_v18

def fn {F : FTy → Type} [FloatOps F] (main_arg0 : FVec F S8192x4096 .f32) (main_arg1 : FVec F S1x4096 .f32) (main_arg2 : FVec F S4x1x4096 .f32) (main_arg3 : FVec F S4x1x4096 .f32) (main_arg4 : FVec F S16x4096 .f32) : IVec S_ 1 :=
  let main_v0 : FVec F S1x4096 .f32 := Host.absf main_arg1
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S4x1x4096 .f32 := Host.absf main_arg2
  let main_cst_0 : FVec F S_ .f32 := constant S_ .f32 0x7F800000#32
  let main_v5 : FVec F S4x1x4096 .f32 := broadcastInDim S4x1x4096 ![] bcast_S_S4x1x4096 main_cst_0
  let main_v6 : IVec S4x1x4096 1 := cmpf .olt main_v4 main_v5
  let main_c_1 : IVec S_ 1 := constantI S_ 1 1#1
  let main_v7 : IVec S_ 1 := (fun x v => Host.reduce IntOp.andi x v reducesTo_S4x1x4096_S_d0_1_2 h_S_) main_v6 main_c_1
  let main_v8 : FVec F S4x1x4096 .f32 := Host.absf main_arg3
  let main_cst_2 : FVec F S_ .f32 := constant S_ .f32 0x7F800000#32
  let main_v9 : FVec F S4x1x4096 .f32 := broadcastInDim S4x1x4096 ![] bcast_S_S4x1x4096 main_cst_2
  let main_v10 : IVec S4x1x4096 1 := cmpf .olt main_v8 main_v9
  let main_c_3 : IVec S_ 1 := constantI S_ 1 1#1
  let main_v11 : IVec S_ 1 := (fun x v => Host.reduce IntOp.andi x v reducesTo_S4x1x4096_S_d0_1_2 h_S_) main_v10 main_c_3
  let main_v12 : IVec S_ 1 := andi main_v3 main_v7
  let main_v13 : IVec S_ 1 := andi main_v12 main_v11
  let main_v14 : FVec F S16x4096 .f32 := Host.absf main_arg4
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_v13 main_v16
-- ==== Pre_finite9.lean ====
abbrev S8x4096 : Shape := ⟨2, ![8, 4096]⟩
abbrev S4096x24576 : Shape := ⟨2, ![4096, 24576]⟩
abbrev S1x24576 : Shape := ⟨2, ![1, 24576]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel

variable [Facts]

def fn {F : FTy → Type} [FloatOps F] (main_arg0 : FVec F S8x4096 .f32) (main_arg1 : FVec F S4096x24576 .f32) (main_arg2 : FVec F S1x24576 .f32) : IVec S_ 1 :=
  let main_cst : FVec F S_ .f32 := constant S_ .f32 0x7F800000#32
  let main_v0 : FVec F S8x4096 .f32 := broadcastInDim S8x4096 ![] bcast_S_S8x4096 main_cst
  let main_v1 : IVec S8x4096 1 := cmpf .olt main_arg0 main_v0
  let main_c : IVec S_ 1 := constantI S_ 1 1#1
  let main_v2 : IVec S_ 1 := (fun x v => Host.reduce IntOp.andi x v reducesTo_S8x4096_S_d0_1 h_S_) main_v1 main_c
  main_v2
-- ==== Kernel.lean ====
abbrev S8192x4096 : Shape := ⟨2, ![8192, 4096]⟩
abbrev S8192x8192 : Shape := ⟨2, ![8192, 8192]⟩
abbrev S4x16x128x128 : Shape := ⟨4, ![4, 16, 128, 128]⟩
abbrev S1x2048 : Shape := ⟨2, ![1, 2048]⟩
abbrev S2x128x128 : Shape := ⟨3, ![2, 128, 128]⟩
abbrev S8192x2048 : Shape := ⟨2, ![8192, 2048]⟩
abbrev S2048x128 : Shape := ⟨2, ![2048, 128]⟩
abbrev S1x1x128x128 : Shape := ⟨4, ![1, 1, 128, 128]⟩
abbrev S1x128 : Shape := ⟨2, ![1, 128]⟩
abbrev S128x128 : Shape := ⟨2, ![128, 128]⟩
abbrev S1x128x128 : Shape := ⟨3, ![1, 128, 128]⟩
abbrev S1x8x128 : Shape := ⟨3, ![1, 8, 128]⟩
abbrev S16x8x128 : Shape := ⟨3, ![16, 8, 128]⟩
abbrev S8x128 : Shape := ⟨2, ![8, 128]⟩
abbrev S16x128 : Shape := ⟨2, ![16, 128]⟩
abbrev S32x128 : Shape := ⟨2, ![32, 128]⟩
abbrev S64x128 : Shape := ⟨2, ![64, 128]⟩
abbrev S128 : Shape := ⟨1, ![128]⟩
abbrev S128x1 : Shape := ⟨2, ![128, 1]⟩

abbrev nBuf : Space → Nat
  | .hbm => 8
  | .vmem => 26
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S8192x8192, .bf16⟩
  | .hbm, ⟨3, _⟩ => ⟨S4x16x128x128, .f32⟩
  | .hbm, ⟨4, _⟩ => ⟨S4x16x128x128, .f32⟩
  | .hbm, ⟨5, _⟩ => ⟨S1x2048, .f32⟩
  | .hbm, ⟨6, _⟩ => ⟨S2x128x128, .i32⟩
  | .hbm, ⟨7, _⟩ => ⟨S8192x2048, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S1x1x128x128, .f32⟩
  | .local _ .vmem, ⟨15, _⟩ => ⟨S1x1x128x128, .f32⟩
  | .local _ .vmem, ⟨16, _⟩ => ⟨S1x1x128x128, .f32⟩
  | .local _ .vmem, ⟨17, _⟩ => ⟨S1x1x128x128, .f32⟩
  | .local _ .vmem, ⟨18, _⟩ => ⟨S1x128, .f32⟩
  | .local _ .vmem, ⟨19, _⟩ => ⟨S1x128, .f32⟩
  | .local _ .vmem, ⟨20, _⟩ => ⟨S2x128x128, .i32⟩
  | .local _ .vmem, ⟨21, _⟩ => ⟨S2048x128, .bf16⟩
  | .local _ .vmem, ⟨22, _⟩ => ⟨S2048x128, .bf16⟩
  | .local _ .vmem, ⟨23, _⟩ => ⟨S128x128, .f32⟩
  | .local _ .vmem, ⟨24, _⟩ => ⟨S128x128, .f32⟩
  | .local _ .vmem, ⟨25, _⟩ => ⟨S2048x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c8_i32 : BitVec 32 := 8#32
  let v12 : BitVec 32 := Scalar.addi c0_i32 c8_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c128_i32 : BitVec 32 := 128#32
  let v14 : BitVec 32 := Scalar.muli arg17 c128_i32
  v14
def k0_mult2 (k0_t1 : Fin k0_t1_loop.trips) : BitVec 32 :=
  let c15_i32 : BitVec 32 := 15#32
  let c0_i32 : BitVec 32 := 0#32
  let c1_i32 : BitVec 32 := 1#32
  let arg17 : BitVec 32 := Scf.iv c0_i32 c1_i32 k0_t1
  let v16 : BitVec 32 := Scalar.subi c15_i32 arg17
  let c128_i32_18 : BitVec 32 := 128#32
  let v17 : BitVec 32 := Scalar.muli v16 c128_i32_18
  v17
def k0_off1 (k0_t1 : Fin k0_t1_loop.trips) : Fin 2 → Nat :=
  let c0_i32 : BitVec 32 := 0#32
  let c1_i32 : BitVec 32 := 1#32
  let arg17 : BitVec 32 := Scf.iv c0_i32 c1_i32 k0_t1
  let c128_i32 : BitVec 32 := 128#32
  let v14 : BitVec 32 := Scalar.muli arg17 c128_i32
  let v15 : BitVec 32 := v14
  let v19 : Index := Scalar.indexCast v15
  let c0_19 : Index := 0#32
  ![v19.toNat, 0]
def k0_off2 (k0_t1 : Fin k0_t1_loop.trips) : Fin 2 → Nat :=
  let c15_i32 : BitVec 32 := 15#32
  let c0_i32 : BitVec 32 := 0#32
  let c1_i32 : BitVec 32 := 1#32
  let arg17 : BitVec 32 := Scf.iv c0_i32 c1_i32 k0_t1
  let v16 : BitVec 32 := Scalar.subi c15_i32 arg17
  let c128_i32_18 : BitVec 32 := 128#32
  let v17 : BitVec 32 := Scalar.muli v16 c128_i32_18
  let v18 : BitVec 32 := v17
  let v531 : Index := Scalar.indexCast v18
  let c0_76 : Index := 0#32
  ![v531.toNat, 0]
@[reducible] def k0_t2_loop : Scf.Loop 32 :=
  let c8_i32_14 : BitVec 32 := 8#32
  let c8_i32_15 : BitVec 32 := 8#32
  let v13 : BitVec 32 := Scalar.addi c8_i32_14 c8_i32_15
  let c1_i32_16 : BitVec 32 := 1#32
  ⟨c8_i32_14, v13, c1_i32_16⟩
def k0_mult3 (k0_t2 : Fin k0_t2_loop.trips) : BitVec 32 :=
  let c8_i32_14 : BitVec 32 := 8#32
  let c1_i32_16 : BitVec 32 := 1#32
  let arg17 : BitVec 32 := Scf.iv c8_i32_14 c1_i32_16 k0_t2
  let c128_i32 : BitVec 32 := 128#32
  let v14 : BitVec 32 := Scalar.muli arg17 c128_i32
  v14
def k0_mult4 (k0_t2 : Fin k0_t2_loop.trips) : BitVec 32 :=
  let c15_i32 : BitVec 32 := 15#32
  let c8_i32_14 : BitVec 32 := 8#32
  let c1_i32_16 : BitVec 32 := 1#32
  let arg17 : BitVec 32 := Scf.iv c8_i32_14 c1_i32_16 k0_t2
  let v16 : BitVec 32 := Scalar.subi c15_i32 arg17
  let c128_i32_18 : BitVec 32 := 128#32
  let v17 : BitVec 32 := Scalar.muli v16 c128_i32_18
  v17
def k0_off3 (k0_t2 : Fin k0_t2_loop.trips) : Fin 2 → Nat :=
  let c8_i32_14 : BitVec 32 := 8#32
  let c1_i32_16 : BitVec 32 := 1#32
  let arg17 : BitVec 32 := Scf.iv c8_i32_14 c1_i32_16 k0_t2
  let c128_i32 : BitVec 32 := 128#32
  let v14 : BitVec 32 := Scalar.muli arg17 c128_i32
  let v15 : BitVec 32 := v14
  let v19 : Index := Scalar.indexCast v15
  let c0_19 : Index := 0#32
  ![v19.toNat, 0]
def k0_off4 (k0_t2 : Fin k0_t2_loop.trips) : Fin 2 → Nat :=
  let c15_i32 : BitVec 32 := 15#32
  let c8_i32_14 : BitVec 32 := 8#32
  let c1_i32_16 : BitVec 32 := 1#32
  let arg17 : BitVec 32 := Scf.iv c8_i32_14 c1_i32_16 k0_t2
  let v16 : BitVec 32 := Scalar.subi c15_i32 arg17
  let c128_i32_18 : BitVec 32 := 128#32
  let v17 : BitVec 32 := Scalar.muli v16 c128_i32_18
  let v18 : BitVec 32 := v17
  let v551 : Index := Scalar.indexCast v18
  let c0_81 : Index := 0#32
  ![v551.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S2x128x128 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel2.lean ====
abbrev S8192x4096 : Shape := ⟨2, ![8192, 4096]⟩
abbrev S2x4096 : Shape := ⟨2, ![2, 4096]⟩
abbrev S4096x12288 : Shape := ⟨2, ![4096, 12288]⟩
abbrev S1024x4096 : Shape := ⟨2, ![1024, 4096]⟩
abbrev S2x512 : Shape := ⟨2, ![2, 512]⟩
abbrev S4096x512 : Shape := ⟨2, ![4096, 512]⟩
abbrev S1024x512 : Shape := ⟨2, ![1024, 512]⟩
abbrev S512 : Shape := ⟨1, ![512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S2x4096, .f32⟩
  | .hbm, ⟨2, _⟩ => ⟨S4096x12288, .f32⟩
  | .hbm, ⟨3, _⟩ => ⟨S8192x4096, .f32⟩
  | .hbm, ⟨4, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S2x512, .f32⟩
  | .local _ .vmem, ⟨3, _⟩ => ⟨S2x512, .f32⟩
  | .local _ .vmem, ⟨4, _⟩ => ⟨S4096x512, .f32⟩
  | .local _ .vmem, ⟨5, _⟩ => ⟨S4096x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x4096 : Shape := ⟨2, ![8192, 4096]⟩
abbrev S2x4096 : Shape := ⟨2, ![2, 4096]⟩
abbrev S4096x12288 : Shape := ⟨2, ![4096, 12288]⟩
abbrev S_ : Shape := ⟨0, ![]⟩
abbrev S4096 : Shape := ⟨1, ![4096]⟩
abbrev S1x4096 : Shape := ⟨2, ![1, 4096]⟩
abbrev S4096x4096 : Shape := ⟨2, ![4096, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096, .f32⟩
  | .hbm, ⟨2, _⟩ => ⟨S4096x12288, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S1x4096, .f32⟩
  | .hbm, ⟨9, _⟩ => ⟨S2x4096, .f32⟩
  | .hbm, ⟨10, _⟩ => ⟨S2x4096, .f32⟩
  | .hbm, ⟨11, _⟩ => ⟨S2x4096, .f32⟩
  | .hbm, ⟨12, _⟩ => ⟨S_, .f32⟩
  | .hbm, ⟨13, _⟩ => ⟨S4096, .f32⟩
  | .hbm, ⟨14, _⟩ => ⟨S1x4096, .f32⟩
  | .hbm, ⟨15, _⟩ => ⟨S2x4096, .f32⟩
  | .hbm, ⟨16, _⟩ => ⟨S2x4096, .f32⟩
  | .hbm, ⟨17, _⟩ => ⟨S1x4096, .f32⟩
  | .hbm, ⟨18, _⟩ => ⟨S4096, .f32⟩
  | .hbm, ⟨19, _⟩ => ⟨S8192x4096, .f32⟩
  | .hbm, ⟨20, _⟩ => ⟨S4096x4096, .f32⟩
  | .hbm, ⟨21, _⟩ => ⟨S8192x4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel3.lean ====
abbrev S8192x4096 : Shape := ⟨2, ![8192, 4096]⟩
abbrev S4096x12288 : Shape := ⟨2, ![4096, 12288]⟩
abbrev S8192x8192 : Shape := ⟨2, ![8192, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .f32⟩
  | .hbm, ⟨2, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x4096 : Shape := ⟨2, ![8192, 4096]⟩
abbrev S4096x12288 : Shape := ⟨2, ![4096, 12288]⟩
abbrev S4096x8192 : Shape := ⟨2, ![4096, 8192]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .f32⟩
  | .hbm, ⟨2, _⟩ => ⟨S8192x4096, .f32⟩
  | .hbm, ⟨3, _⟩ => ⟨S4096x8192, .f32⟩
  | .hbm, ⟨4, _⟩ => ⟨S8192x8192, .f32⟩
  | .hbm, ⟨5, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S8192x2048 : Shape := ⟨2, ![8192, 2048]⟩
abbrev S4096x4096 : Shape := ⟨2, ![4096, 4096]⟩
abbrev S8192x4096 : Shape := ⟨2, ![8192, 4096]⟩
abbrev S4x1x4096 : Shape := ⟨3, ![4, 1, 4096]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S8192x4096, .f32⟩
  | .hbm, ⟨4, _⟩ => ⟨S4x1x4096, .f32⟩
  | .hbm, ⟨5, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .f32⟩
  | .local _ .vmem, ⟨9, _⟩ => ⟨S1024x512, .f32⟩
  | .local _ .vmem, ⟨10, _⟩ => ⟨S1x1x512, .f32⟩
  | .local _ .vmem, ⟨11, _⟩ => ⟨S1x1x512, .f32⟩
  | .local _ .vmem, ⟨12, _⟩ => ⟨S1024x512, .f32⟩
  | .local _ .vmem, ⟨13, _⟩ => ⟨S1024x512, .f32⟩
  | .local _ .vmem, ⟨14, _⟩ => ⟨S2048x512, .bf16⟩
  | .local _ .vmem, ⟨15, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8192x2048 : Shape := ⟨2, ![8192, 2048]⟩
abbrev S4096x4096 : Shape := ⟨2, ![4096, 4096]⟩
abbrev S8192x4096 : Shape := ⟨2, ![8192, 4096]⟩
abbrev S4x1x4096 : Shape := ⟨3, ![4, 1, 4096]⟩
abbrev S4x2048x4096 : Shape := ⟨3, ![4, 2048, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S8192x4096, .f32⟩
  | .hbm, ⟨4, _⟩ => ⟨S4x1x4096, .f32⟩
  | .hbm, ⟨5, _⟩ => ⟨S8192x4096, .bf16⟩
  | .hbm, ⟨6, _⟩ => ⟨S8192x4096, .f32⟩
  | .hbm, ⟨7, _⟩ => ⟨S8192x4096, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S16x1024x2048 : Shape := ⟨3, ![16, 1024, 2048]⟩
abbrev S16x2048x4096 : Shape := ⟨3, ![16, 2048, 4096]⟩
abbrev S16x1024x1 : Shape := ⟨3, ![16, 1024, 1]⟩
abbrev S16x1024x4096 : Shape := ⟨3, ![16, 1024, 4096]⟩
abbrev S1x1024x2048 : Shape := ⟨3, ![1, 1024, 2048]⟩
abbrev S1x2048x1024 : Shape := ⟨3, ![1, 2048, 1024]⟩
abbrev S1x1024x1 : Shape := ⟨3, ![1, 1024, 1]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x1024x2048, .bf16⟩
  | .hbm, ⟨1, _⟩ => ⟨S16x2048x4096, .f32⟩
  | .hbm, ⟨2, _⟩ => ⟨S16x1024x1, .f32⟩
  | .hbm, ⟨3, _⟩ => ⟨S16x1024x4096, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024x1, .f32⟩
  | .local _ .vmem, ⟨5, _⟩ => ⟨S1x1024x1, .f32⟩
  | .local _ .vmem, ⟨6, _⟩ => ⟨S1x1024x1024, .bf16⟩
  | .local _ .vmem, ⟨7, _⟩ => ⟨S1x1024x1024, .bf16⟩
  | _, _ => ⟨S16x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16x1024x2048 : Shape := ⟨3, ![16, 1024, 2048]⟩
abbrev S16x2048x4096 : Shape := ⟨3, ![16, 2048, 4096]⟩
abbrev S16x1024x1 : Shape := ⟨3, ![16, 1024, 1]⟩
abbrev S16x1024x4096 : Shape := ⟨3, ![16, 1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16x1024x2048, .bf16⟩
  | .hbm, ⟨1, _⟩ => ⟨S16x2048x4096, .f32⟩
  | .hbm, ⟨2, _⟩ => ⟨S16x1024x1, .f32⟩
  | .hbm, ⟨3, _⟩ => ⟨S16x1024x2048, .f32⟩
  | .hbm, ⟨4, _⟩ => ⟨S16x1024x4096, .f32⟩
  | .hbm, ⟨5, _⟩ => ⟨S16x1024x4096, .f32⟩
  | .hbm, ⟨6, _⟩ => ⟨S16x1024x4096, .f32⟩
  | .hbm, ⟨7, _⟩ => ⟨S16x1024x4096, .bf16⟩
  | _, _ => ⟨S16x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4x2048x16 : Shape := ⟨3, ![4, 2048, 16]⟩
abbrev S16x4x256x4096 : Shape := ⟨4, ![16, 4, 256, 4096]⟩
abbrev S8192x4096 : Shape := ⟨2, ![8192, 4096]⟩
abbrev S4x1x4096 : Shape := ⟨3, ![4, 1, 4096]⟩
abbrev S1x4096 : Shape := ⟨2, ![1, 4096]⟩
abbrev S1x128x16 : Shape := ⟨3, ![1, 128, 16]⟩
abbrev S16x1x256x4096 : Shape := ⟨4, ![16, 1, 256, 4096]⟩
abbrev S128x4096 : Shape := ⟨2, ![128, 4096]⟩
abbrev S1x1x4096 : Shape := ⟨3, ![1, 1, 4096]⟩
abbrev S128x16 : Shape := ⟨2, ![128, 16]⟩
abbrev S128x256 : Shape := ⟨2, ![128, 256]⟩
abbrev S128x1 : Shape := ⟨2, ![128, 1]⟩
abbrev S16x256x4096 : Shape := ⟨3, ![16, 256, 4096]⟩
abbrev S4096x4096 : Shape := ⟨2, ![4096, 4096]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S4x2048x16, .i32⟩
  | .hbm, ⟨1, _⟩ => ⟨S16x4x256x4096, .bf16⟩
  | .hbm, ⟨2, _⟩ => ⟨S8192x4096, .f32⟩
  | .hbm, ⟨3, _⟩ => ⟨S4x1x4096, .f32⟩
  | .hbm, ⟨4, _⟩ => ⟨S1x4096, .f32⟩
  | .hbm, ⟨5, _⟩ => ⟨S8192x4096, .f32⟩
  | .local _ .vmem, ⟨0, _⟩ => ⟨S1x128x16, .i32⟩
  | .local _ .vmem, ⟨1, _⟩ => ⟨S1x128x16, .i32⟩
  | .local _ .vmem, ⟨2, _⟩ => ⟨S16x1x256x4096, .bf16⟩
  | .local _ .vmem, ⟨3, _⟩ => ⟨S128x4096, .f32⟩
  | .local _ .vmem, ⟨4, _⟩ => ⟨S128x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x4096, .f32⟩
  | .local _ .vmem, ⟨8, _⟩ => ⟨S128x4096, .f32⟩
  | .local _ .vmem, ⟨9, _⟩ => ⟨S128x4096, .f32⟩
  | _, _ => ⟨S4x2048x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x128x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1x256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4x2048x16 : Shape := ⟨3, ![4, 2048, 16]⟩
abbrev S16x4x256x4096 : Shape := ⟨4, ![16, 4, 256, 4096]⟩
abbrev S8192x4096 : Shape := ⟨2, ![8192, 4096]⟩
abbrev S4x1x4096 : Shape := ⟨3, ![4, 1, 4096]⟩
abbrev S1x4096 : Shape := ⟨2, ![1, 4096]⟩
abbrev S_ : Shape := ⟨0, ![]⟩
abbrev S4x16x256x4096 : Shape := ⟨4, ![4, 16, 256, 4096]⟩
abbrev S4x16x2048 : Shape := ⟨3, ![4, 16, 2048]⟩
abbrev S4x16x2048x1 : Shape := ⟨4, ![4, 16, 2048, 1]⟩
abbrev S4x16x2048x4096 : Shape := ⟨4, ![4, 16, 2048, 4096]⟩
abbrev S4x2048x4096 : Shape := ⟨3, ![4, 2048, 4096]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 58
  | .vmem => 0
  | .smem => 0
  | _ => 0

abbrev bufTy : (tb : Table) → Fin (tcTables nBuf tb) → BufTy
  | .hbm, ⟨0, _⟩ => ⟨S4x2048x16, .i32⟩
  | .hbm, ⟨1, _⟩ => ⟨S16x4x256x4096, .bf16⟩
  | .hbm, ⟨2, _⟩ => ⟨S8192x4096, .f32⟩
  | .hbm, ⟨3, _⟩ => ⟨S4x1x4096, .f32⟩
  | .hbm, ⟨4, _⟩ => ⟨S1x4096, .f32⟩
  | .hbm, ⟨5, _⟩ => ⟨S_, .i32⟩
  | .hbm, ⟨6, _⟩ => ⟨S4x2048x16, .i32⟩
  | .hbm, ⟨7, _⟩ => ⟨S4x2048x16, .i1⟩
  | .hbm, ⟨8, _⟩ => ⟨S_, .i32⟩
  | .hbm, ⟨9, _⟩ => ⟨S4x2048x16, .i32⟩
  | .hbm, ⟨10, _⟩ => ⟨S4x2048x16, .i1⟩
  | .hbm, ⟨11, _⟩ => ⟨S4x2048x16, .i1⟩
  | .hbm, ⟨12, _⟩ => ⟨S4x16x256x4096, .bf16⟩
  | .hbm, ⟨13, _⟩ => ⟨S4x16x256x4096, .f32⟩
  | .hbm, ⟨14, _⟩ => ⟨S_, .i32⟩
  | .hbm, ⟨15, _⟩ => ⟨S_, .i32⟩
  | .hbm, ⟨16, _⟩ => ⟨S4x2048x16, .i32⟩
  | .hbm, ⟨17, _⟩ => ⟨S4x2048x16, .i32⟩
  | .hbm, ⟨18, _⟩ => ⟨S4x16x2048, .i32⟩
  | .hbm, ⟨19, _⟩ => ⟨S_, .i32⟩
  | .hbm, ⟨20, _⟩ => ⟨S4x16x2048, .i32⟩
  | .hbm, ⟨21, _⟩ => ⟨S4x16x2048, .i1⟩
  | .hbm, ⟨22, _⟩ => ⟨S_, .i32⟩
  | .hbm, ⟨23, _⟩ => ⟨S4x16x2048, .i32⟩
  | .hbm, ⟨24, _⟩ => ⟨S4x16x2048, .i32⟩
  | .hbm, ⟨25, _⟩ => ⟨S4x16x2048, .i32⟩
  | .hbm, ⟨26, _⟩ => ⟨S4x16x2048x1, .i32⟩
  | .hbm, ⟨27, _⟩ => ⟨S4x16x2048x4096, .f32⟩
  | .hbm, ⟨28, _⟩ => ⟨S4x16x2048, .i1⟩
  | .hbm, ⟨29, _⟩ => ⟨S4x16x2048x1, .i1⟩
  | .hbm, ⟨30, _⟩ => ⟨S_, .f32⟩
  | .hbm, ⟨31, _⟩ => ⟨S_, .f32⟩
  | .hbm, ⟨32, _⟩ => ⟨S4x16x2048x4096, .i1⟩
  | .hbm, ⟨33, _⟩ => ⟨S4x16x2048x4096, .f32⟩
  | .hbm, ⟨34, _⟩ => ⟨S4x16x2048x4096, .f32⟩
  | .hbm, ⟨35, _⟩ => ⟨S_, .f32⟩
  | .hbm, ⟨36, _⟩ => ⟨S4x2048x4096, .f32⟩
  | .hbm, ⟨37, _⟩ => ⟨S4x2048x4096, .f32⟩
  | .hbm, ⟨38, _⟩ => ⟨S4x2048x4096, .f32⟩
  | .hbm, ⟨39, _⟩ => ⟨S4x2048x4096, .f32⟩
  | .hbm, ⟨40, _⟩ => ⟨S4x2048x4096, .f32⟩
  | .hbm, ⟨41, _⟩ => ⟨S4x2048x4096, .f32⟩
  | .hbm, ⟨42, _⟩ => ⟨S_, .f32⟩
  | .hbm, ⟨43, _⟩ => ⟨S4x2048, .f32⟩
  | .hbm, ⟨44, _⟩ => ⟨S4x2048x1, .f32⟩
  | .hbm, ⟨45, _⟩ => ⟨S_, .f32⟩
  | .hbm, ⟨46, _⟩ => ⟨S4x2048x1, .f32⟩
  | .hbm, ⟨47, _⟩ => ⟨S4x2048x1, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S4x2048x1, .f32⟩
  | .hbm, ⟨52, _⟩ => ⟨S4x2048x4096, .f32⟩
  | .hbm, ⟨53, _⟩ => ⟨S4x2048x4096, .f32⟩
  | .hbm, ⟨54, _⟩ => ⟨S1x1x4096, .f32⟩
  | .hbm, ⟨55, _⟩ => ⟨S4x2048x4096, .f32⟩
  | .hbm, ⟨56, _⟩ => ⟨S4x2048x4096, .f32⟩
  | .hbm, ⟨57, _⟩ => ⟨S8192x4096, .f32⟩
  | _, _ => ⟨S4x2048x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Kernel7.lean ====
abbrev S8192x4096 : Shape := ⟨2, ![8192, 4096]⟩
abbrev S1x4096 : Shape := ⟨2, ![1, 4096]⟩
abbrev S4x1x4096 : Shape := ⟨3, ![4, 1, 4096]⟩
abbrev S256x4096 : Shape := ⟨2, ![256, 4096]⟩
abbrev S1x1x4096 : Shape := ⟨3, ![1, 1, 4096]⟩
abbrev S16x4096 : Shape := ⟨2, ![16, 4096]⟩
abbrev S16 : Shape := ⟨1, ![16]⟩
abbrev S16x1 : Shape := ⟨2, ![16, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4x1x4096, .f32⟩
  | .hbm, ⟨3, _⟩ => ⟨S4x1x4096, .f32⟩
  | .hbm, ⟨4, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_8 : BitVec 32 := 16#32
  let v6 : BitVec 32 := Scalar.muli arg6 c16_i32_8
  v6
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c16_i32_8 : BitVec 32 := 16#32
  let v6 : BitVec 32 := Scalar.muli arg6 c16_i32_8
  let v7 : BitVec 32 := v6
  let v8 : Index := Scalar.indexCast v7
  let c0_9 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S8192x4096 : Shape := ⟨2, ![8192, 4096]⟩
abbrev S1x4096 : Shape := ⟨2, ![1, 4096]⟩
abbrev S4x1x4096 : Shape := ⟨3, ![4, 1, 4096]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4x1x4096, .f32⟩
  | .hbm, ⟨3, _⟩ => ⟨S4x1x4096, .f32⟩
  | .hbm, ⟨4, _⟩ => ⟨S4x2048x4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S_, .f32⟩
  | .hbm, ⟨22, _⟩ => ⟨S4x1x4096, .f32⟩
  | .hbm, ⟨23, _⟩ => ⟨S4x1x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S8192x4096, .f32⟩
  | .hbm, ⟨29, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel8.lean ====
abbrev S8192x4096 : Shape := ⟨2, ![8192, 4096]⟩
abbrev S1x4096 : Shape := ⟨2, ![1, 4096]⟩
abbrev S4x1x4096 : Shape := ⟨3, ![4, 1, 4096]⟩
abbrev S16x4096 : Shape := ⟨2, ![16, 4096]⟩
abbrev S4x16x2048 : Shape := ⟨3, ![4, 16, 2048]⟩
abbrev S256x4096 : Shape := ⟨2, ![256, 4096]⟩
abbrev S1x1x4096 : Shape := ⟨3, ![1, 1, 4096]⟩
abbrev S1x16x256 : Shape := ⟨3, ![1, 16, 256]⟩
abbrev S256 : Shape := ⟨1, ![256]⟩
abbrev S256x1 : Shape := ⟨2, ![256, 1]⟩
abbrev S16x256 : Shape := ⟨2, ![16, 256]⟩
abbrev S1x256 : Shape := ⟨2, ![1, 256]⟩

abbrev nBuf : Space → Nat
  | .hbm => 7
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4x1x4096, .f32⟩
  | .hbm, ⟨3, _⟩ => ⟨S4x1x4096, .f32⟩
  | .hbm, ⟨4, _⟩ => ⟨S16x4096, .f32⟩
  | .hbm, ⟨5, _⟩ => ⟨S8192x4096, .f32⟩
  | .hbm, ⟨6, _⟩ => ⟨S4x16x2048, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S16x4096, .f32⟩
  | .local _ .vmem, ⟨8, _⟩ => ⟨S256x4096, .f32⟩
  | .local _ .vmem, ⟨9, _⟩ => ⟨S256x4096, .f32⟩
  | .local _ .vmem, ⟨10, _⟩ => ⟨S1x16x256, .f32⟩
  | .local _ .vmem, ⟨11, _⟩ => ⟨S1x16x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S8192x4096 : Shape := ⟨2, ![8192, 4096]⟩
abbrev S1x4096 : Shape := ⟨2, ![1, 4096]⟩
abbrev S4x1x4096 : Shape := ⟨3, ![4, 1, 4096]⟩
abbrev S16x4096 : Shape := ⟨2, ![16, 4096]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4096x16 : Shape := ⟨2, ![4096, 16]⟩
abbrev S4x2048x16 : Shape := ⟨3, ![4, 2048, 16]⟩
abbrev S4x16x2048 : Shape := ⟨3, ![4, 16, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4x1x4096, .f32⟩
  | .hbm, ⟨3, _⟩ => ⟨S4x1x4096, .f32⟩
  | .hbm, ⟨4, _⟩ => ⟨S16x4096, .f32⟩
  | .hbm, ⟨5, _⟩ => ⟨S4x2048x4096, .f32⟩
  | .hbm, ⟨6, _⟩ => ⟨S4x2048x4096, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x4096, .f32⟩
  | .hbm, ⟨18, _⟩ => ⟨S4x2048x4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | .hbm, ⟨22, _⟩ => ⟨S_, .f32⟩
  | .hbm, ⟨23, _⟩ => ⟨S4x1x4096, .f32⟩
  | .hbm, ⟨24, _⟩ => ⟨S4x1x4096, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S4096x16, .f32⟩
  | .hbm, ⟨30, _⟩ => ⟨S4x2048x16, .f32⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S4x2048, .f32⟩
  | .hbm, ⟨36, _⟩ => ⟨S4x2048x1, .f32⟩
  | .hbm, ⟨37, _⟩ => ⟨S4x2048x16, .f32⟩
  | .hbm, ⟨38, _⟩ => ⟨S4x2048x16, .f32⟩
  | .hbm, ⟨39, _⟩ => ⟨S4x2048x16, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S4x2048x16, .f32⟩
  | .hbm, ⟨44, _⟩ => ⟨S4x2048x16, .f32⟩
  | .hbm, ⟨45, _⟩ => ⟨S8192x4096, .f32⟩
  | .hbm, ⟨46, _⟩ => ⟨S4x16x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel9.lean ====
abbrev S8x4096 : Shape := ⟨2, ![8, 4096]⟩
abbrev S4096x24576 : Shape := ⟨2, ![4096, 24576]⟩
abbrev S1x24576 : Shape := ⟨2, ![1, 24576]⟩
abbrev S8x24576 : Shape := ⟨2, ![8, 24576]⟩
abbrev S4096x512 : Shape := ⟨2, ![4096, 512]⟩
abbrev S1x512 : Shape := ⟨2, ![1, 512]⟩
abbrev S8x512 : Shape := ⟨2, ![8, 512]⟩
abbrev S16x4096 : Shape := ⟨2, ![16, 4096]⟩
abbrev S16x512 : Shape := ⟨2, ![16, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S4096x24576, .f32⟩
  | .hbm, ⟨2, _⟩ => ⟨S1x24576, .f32⟩
  | .hbm, ⟨3, _⟩ => ⟨S8x24576, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8x4096 : Shape := ⟨2, ![8, 4096]⟩
abbrev S4096x24576 : Shape := ⟨2, ![4096, 24576]⟩
abbrev S1x24576 : Shape := ⟨2, ![1, 24576]⟩
abbrev S_ : Shape := ⟨0, ![]⟩
abbrev S8x24576 : Shape := ⟨2, ![8, 24576]⟩

abbrev nBuf : Space → Nat
  | .hbm => 15
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4096x24576, .f32⟩
  | .hbm, ⟨2, _⟩ => ⟨S1x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S8x24576, .f32⟩
  | .hbm, ⟨13, _⟩ => ⟨S8x24576, .f32⟩
  | .hbm, ⟨14, _⟩ => ⟨S8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel10.lean ====
abbrev S1024x4096 : Shape := ⟨2, ![1024, 4096]⟩
abbrev S2x4096 : Shape := ⟨2, ![2, 4096]⟩
abbrev S4096x12288 : Shape := ⟨2, ![4096, 12288]⟩
abbrev S2x512 : Shape := ⟨2, ![2, 512]⟩
abbrev S4096x512 : Shape := ⟨2, ![4096, 512]⟩
abbrev S1024x512 : Shape := ⟨2, ![1024, 512]⟩
abbrev S512 : Shape := ⟨1, ![512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S1024x4096, .bf16⟩
  | .hbm, ⟨1, _⟩ => ⟨S2x4096, .f32⟩
  | .hbm, ⟨2, _⟩ => ⟨S4096x12288, .f32⟩
  | .hbm, ⟨3, _⟩ => ⟨S1024x4096, .f32⟩
  | .hbm, ⟨4, _⟩ => ⟨S1024x4096, .bf16⟩
  | .local _ .vmem, ⟨0, _⟩ => ⟨S1024x4096, .bf16⟩
  | .local _ .vmem, ⟨1, _⟩ => ⟨S2x512, .f32⟩
  | .local _ .vmem, ⟨2, _⟩ => ⟨S2x512, .f32⟩
  | .local _ .vmem, ⟨3, _⟩ => ⟨S4096x512, .f32⟩
  | .local _ .vmem, ⟨4, _⟩ => ⟨S4096x512, .f32⟩
  | .local _ .vmem, ⟨5, _⟩ => ⟨S1024x512, .f32⟩
  | .local _ .vmem, ⟨6, _⟩ => ⟨S1024x512, .f32⟩
  | .local _ .vmem, ⟨7, _⟩ => ⟨S1024x512, .bf16⟩
  | .local _ .vmem, ⟨8, _⟩ => ⟨S1024x512, .bf16⟩
  | .local _ .vmem, ⟨9, _⟩ => ⟨S4096x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S1024x4096 : Shape := ⟨2, ![1024, 4096]⟩
abbrev S2x4096 : Shape := ⟨2, ![2, 4096]⟩
abbrev S4096x12288 : Shape := ⟨2, ![4096, 12288]⟩
abbrev S_ : Shape := ⟨0, ![]⟩
abbrev S4096 : Shape := ⟨1, ![4096]⟩
abbrev S1x4096 : Shape := ⟨2, ![1, 4096]⟩
abbrev S4096x4096 : Shape := ⟨2, ![4096, 4096]⟩

abbrev nBuf : Space → Nat
  | .hbm => 43
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S2x4096, .f32⟩
  | .hbm, ⟨2, _⟩ => ⟨S4096x12288, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S1x4096, .f32⟩
  | .hbm, ⟨9, _⟩ => ⟨S2x4096, .f32⟩
  | .hbm, ⟨10, _⟩ => ⟨S2x4096, .f32⟩
  | .hbm, ⟨11, _⟩ => ⟨S2x4096, .f32⟩
  | .hbm, ⟨12, _⟩ => ⟨S_, .f32⟩
  | .hbm, ⟨13, _⟩ => ⟨S4096, .f32⟩
  | .hbm, ⟨14, _⟩ => ⟨S1x4096, .f32⟩
  | .hbm, ⟨15, _⟩ => ⟨S2x4096, .f32⟩
  | .hbm, ⟨16, _⟩ => ⟨S2x4096, .f32⟩
  | .hbm, ⟨17, _⟩ => ⟨S1x4096, .f32⟩
  | .hbm, ⟨18, _⟩ => ⟨S4096, .f32⟩
  | .hbm, ⟨19, _⟩ => ⟨S1024x4096, .f32⟩
  | .hbm, ⟨20, _⟩ => ⟨S4096x4096, .f32⟩
  | .hbm, ⟨21, _⟩ => ⟨S1024x4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S1024x4096, .f32⟩
  | .hbm, ⟨26, _⟩ => ⟨S1024x4096, .f32⟩
  | .hbm, ⟨27, _⟩ => ⟨S_, .f32⟩
  | .hbm, ⟨28, _⟩ => ⟨S1024x4096, .f32⟩
  | .hbm, ⟨29, _⟩ => ⟨S1024x4096, .f32⟩
  | .hbm, ⟨30, _⟩ => ⟨S_, .f32⟩
  | .hbm, ⟨31, _⟩ => ⟨S1024x4096, .f32⟩
  | .hbm, ⟨32, _⟩ => ⟨S1024x4096, .f32⟩
  | .hbm, ⟨33, _⟩ => ⟨S1x4096, .f32⟩
  | .hbm, ⟨34, _⟩ => ⟨S1024x4096, .f32⟩
  | .hbm, ⟨35, _⟩ => ⟨S1024x4096, .f32⟩
  | .hbm, ⟨36, _⟩ => ⟨S1x4096, .f32⟩
  | .hbm, ⟨37, _⟩ => ⟨S1024x4096, .f32⟩
  | .hbm, ⟨38, _⟩ => ⟨S1024x4096, .f32⟩
  | .hbm, ⟨39, _⟩ => ⟨S_, .f32⟩
  | .hbm, ⟨40, _⟩ => ⟨S1024x4096, .f32⟩
  | .hbm, ⟨41, _⟩ => ⟨S1024x4096, .f32⟩
  | .hbm, ⟨42, _⟩ => ⟨S1024x4096, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel11.lean ====
abbrev S1024x4096 : Shape := ⟨2, ![1024, 4096]⟩
abbrev S4096x12288 : Shape := ⟨2, ![4096, 12288]⟩
abbrev S1024x2048 : Shape := ⟨2, ![1024, 2048]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .bf16⟩
  | .hbm, ⟨1, _⟩ => ⟨S4096x12288, .f32⟩
  | .hbm, ⟨2, _⟩ => ⟨S1024x2048, .bf16⟩
  | .local _ .vmem, ⟨0, _⟩ => ⟨S1024x4096, .bf16⟩
  | .local _ .vmem, ⟨1, _⟩ => ⟨S4096x512, .f32⟩
  | .local _ .vmem, ⟨2, _⟩ => ⟨S4096x512, .f32⟩
  | .local _ .vmem, ⟨3, _⟩ => ⟨S1024x512, .bf16⟩
  | .local _ .vmem, ⟨4, _⟩ => ⟨S1024x512, .bf16⟩
  | .local _ .vmem, ⟨5, _⟩ => ⟨S4096x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S1024x4096 : Shape := ⟨2, ![1024, 4096]⟩
abbrev S4096x12288 : Shape := ⟨2, ![4096, 12288]⟩
abbrev S4096x2048 : Shape := ⟨2, ![4096, 2048]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x12288, .f32⟩
  | .hbm, ⟨2, _⟩ => ⟨S1024x4096, .f32⟩
  | .hbm, ⟨3, _⟩ => ⟨S4096x2048, .f32⟩
  | .hbm, ⟨4, _⟩ => ⟨S1024x2048, .f32⟩
  | .hbm, ⟨5, _⟩ => ⟨S1024x2048, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S1024x4096 : Shape := ⟨2, ![1024, 4096]⟩
abbrev S1x4096 : Shape := ⟨2, ![1, 4096]⟩
abbrev S1x1x4096 : Shape := ⟨3, ![1, 1, 4096]⟩
abbrev S256x4096 : Shape := ⟨2, ![256, 4096]⟩
abbrev S16x4096 : Shape := ⟨2, ![16, 4096]⟩
abbrev S16 : Shape := ⟨1, ![16]⟩
abbrev S16x1 : Shape := ⟨2, ![16, 1]⟩

abbrev nBuf : Space → Nat
  | .hbm => 5
  | .vmem => 9
  | .smem => 0
  | _ => 0

abbrev bufTy : (tb : Table) → Fin (tcTables nBuf tb) → BufTy
  | .hbm, ⟨0, _⟩ => ⟨S1024x4096, .f32⟩
  | .hbm, ⟨1, _⟩ => ⟨S1x4096, .f32⟩
  | .hbm, ⟨2, _⟩ => ⟨S1x1x4096, .f32⟩
  | .hbm, ⟨3, _⟩ => ⟨S1x1x4096, .f32⟩
  | .hbm, ⟨4, _⟩ => ⟨S1024x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_8 : BitVec 32 := 16#32
  let v6 : BitVec 32 := Scalar.muli arg6 c16_i32_8
  v6
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c16_i32_8 : BitVec 32 := 16#32
  let v6 : BitVec 32 := Scalar.muli arg6 c16_i32_8
  let v7 : BitVec 32 := v6
  let v8 : Index := Scalar.indexCast v7
  let c0_9 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S1024x4096 : Shape := ⟨2, ![1024, 4096]⟩
abbrev S1x4096 : Shape := ⟨2, ![1, 4096]⟩
abbrev S1x1x4096 : Shape := ⟨3, ![1, 1, 4096]⟩
abbrev S4x256x4096 : Shape := ⟨3, ![4, 256, 4096]⟩
abbrev S_ : Shape := ⟨0, ![]⟩
abbrev S4x256 : Shape := ⟨2, ![4, 256]⟩
abbrev S4x256x1 : Shape := ⟨3, ![4, 256, 1]⟩

abbrev nBuf : Space → Nat
  | .hbm => 30
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1x4096, .f32⟩
  | .hbm, ⟨2, _⟩ => ⟨S1x1x4096, .f32⟩
  | .hbm, ⟨3, _⟩ => ⟨S1x1x4096, .f32⟩
  | .hbm, ⟨4, _⟩ => ⟨S4x256x4096, .f32⟩
  | .hbm, ⟨5, _⟩ => ⟨S4x256x4096, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x4096, .f32⟩
  | .hbm, ⟨17, _⟩ => ⟨S4x256x4096, .f32⟩
  | .hbm, ⟨18, _⟩ => ⟨S1x1x4096, .f32⟩
  | .hbm, ⟨19, _⟩ => ⟨S4x256x4096, .f32⟩
  | .hbm, ⟨20, _⟩ => ⟨S4x256x4096, .f32⟩
  | .hbm, ⟨21, _⟩ => ⟨S_, .f32⟩
  | .hbm, ⟨22, _⟩ => ⟨S1x1x4096, .f32⟩
  | .hbm, ⟨23, _⟩ => ⟨S1x1x4096, .f32⟩
  | .hbm, ⟨24, _⟩ => ⟨S4x256x4096, .f32⟩
  | .hbm, ⟨25, _⟩ => ⟨S4x256x4096, .f32⟩
  | .hbm, ⟨26, _⟩ => ⟨S4x256x4096, .f32⟩
  | .hbm, ⟨27, _⟩ => ⟨S4x256x4096, .f32⟩
  | .hbm, ⟨28, _⟩ => ⟨S1024x4096, .f32⟩
  | .hbm, ⟨29, _⟩ => ⟨S1024x4096, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Scan.Body.lean ====
/- The scan's body at one point of its grid: it runs to its end and leaves what it reads unchanged. -/
module

public import proofs.«01_k».proof.Proof.Gen.KernelIdeal.Frame.Runs

@[expose] public section

set_option maxRecDepth 16384

noncomputable section

namespace Cert.Proof.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- One point of the scan: with every staged input at its contents, and the result's tile, the two states and the first
    halves' array at anything, the body runs to its end, leaves the inputs as they were and hands the rest back at some
    contents. -/
theorem point_runs (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1x128x128 .f32) (harg9 : arg9.IsWhole) (arg10 : Memref sig .tc .vmem S1x1x128x128 .f32) (harg10 : arg10.IsWhole) (arg11 : Memref sig .tc .vmem S1x128 .f32) (harg11 : arg11.IsWhole) (arg12 : Memref sig .tc .vmem S2x128x128 .i32) (harg12 : arg12.IsWhole) (arg13 : Memref sig .tc .vmem S2048x128 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S2048x128 .f32) (harg16 : arg16.IsWhole)
    (x0 : Vec F S2048x128 .f32) (x1 : Vec F S2048x128 .f32) (x2 : Vec F S2048x128 .bf16) (x3 : Vec F S2048x128 .bf16) (x4 : Vec F S2048x128 .bf16) (x5 : Vec F S2048x128 .bf16) (x6 : Vec F S2048x128 .bf16) (x7 : Vec F S1x1x128x128 .f32) (x8 : Vec F S1x1x128x128 .f32) (x9 : Vec F S1x128 .f32) (x10 : Vec F S2x128x128 .i32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_hgrn2_scan i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_hgrn2_scan_eq_skeleton]; unfold cc0_hgrn2_scan_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Proof.Scan

end
-- ==== Proof.Scan.Same.lean ====
/- The scan and its idealization have the same text: their tables of definitions and their mains are equal. -/
module

public import proofs.«01_k».proof.Defs
public import proofs.«01_k».proof.Proof.Gen.Kernel
public import proofs.«01_k».proof.Proof.Gen.KernelIdeal

@[expose] public section

set_option maxRecDepth 100000
set_option maxHeartbeats 4000000

noncomputable section

open Idealize.ShloMosaic Idealize.ShloMosaic.TcCoe Idealize.SL.Sem

namespace Cert.Proof.Scan

variable [Cert.Kernel.Facts] [Cert.KernelIdeal.Facts]

/-- The constants are the same, entry by entry. -/
theorem constant_same : Cert.Kernel.lit0 = Cert.KernelIdeal.lit0 := rfl

/-- The bodies are the same. -/
theorem body_same : Cert.Kernel.cc0_hgrn2_scan (F := Bits) = Cert.KernelIdeal.cc0_hgrn2_scan (F := Bits) := rfl

/-- The tables of bodies are the same: each has the one row. -/
theorem table_same : Cert.Kernel.defs₀ (F := Bits) = Cert.KernelIdeal.defs₀ (F := Bits) := by
  unfold Cert.Kernel.defs₀ Cert.KernelIdeal.defs₀
  rw [body_same]
  refine congrArg Defs.onTc ?_
  funext x y
  match x, y with
  | 0, (t, s) => rfl
  | ⟨n + 1, h⟩, _ => exact absurd h (by omega)

/-- The tables with the pipelines are the same. -/
theorem defs_same : Cert.Kernel.defs (F := Bits) = Cert.KernelIdeal.defs (F := Bits) := by
  unfold Cert.Kernel.defs Cert.KernelIdeal.defs
  exact congrArg (Pipeline.defs (Cert.KernelIdeal.pcfgs (F := Bits))) table_same

/-- The mains are the same. -/
theorem main_same : Cert.Kernel.main (F := Bits) = Cert.KernelIdeal.main (F := Bits) := by
  unfold Cert.Kernel.main Cert.KernelIdeal.main
  rw [constant_same]
  rfl

end Cert.Proof.Scan

end
-- ==== Proof.Scan.Frame.lean ====
/- The scan's frame: every run ends, with the arguments unchanged and every counter at zero. -/
module

public import proofs.«01_k».proof.Defs
public import proofs.«01_k».proof.Proof.Gen.Kernel
public import proofs.«01_k».proof.Proof.Scan.Body
public import proofs.«01_k».proof.Proof.Scan.Same
public import Idealize.ShloMosaic.Lib.Claim

@[expose] public section

set_option maxRecDepth 16384

noncomputable section

namespace Cert.Proof.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is stated: the result's, the last of the twelve. -/
def unstated : Fin 12 → Bool := fun w => w.val == 11

/-- What the pipeline holds: the arrays as the region finds them, each input's tile at its block of them, the result's
    tile at anything; nothing is owed. -/
def held (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
  Φ _ := Pipeline.ΦA spec0 c
  q w := Pipeline.shareOf spec0 w
  owed _ := 0

/-- The arrays are the ones the region finds. -/
theorem A_eq (c : Dev nD) (w : Fin cfg0.W) : (held m 0 c).A w = V m c (Pipeline.arrRef spec0 w) := by
  dsimp only [held]

/-- After the body an input's tile is its block. -/
theorem after0_0 (c : Dev nD) (t : Fin cfg0.N) : (held m 0 c).after 0 t = iblk m c 0 t := by dsimp only [held]
theorem after0_1 (c : Dev nD) (t : Fin cfg0.N) : (held m 0 c).after 1 t = iblk m c 1 t := by dsimp only [held]
theorem after0_2 (c : Dev nD) (t : Fin cfg0.N) : (held m 0 c).after 2 t = iblk m c 2 t := by dsimp only [held]
theorem after0_3 (c : Dev nD) (t : Fin cfg0.N) : (held m 0 c).after 3 t = iblk m c 3 t := by dsimp only [held]
theorem after0_4 (c : Dev nD) (t : Fin cfg0.N) : (held m 0 c).after 4 t = iblk m c 4 t := by dsimp only [held]
theorem after0_5 (c : Dev nD) (t : Fin cfg0.N) : (held m 0 c).after 5 t = iblk m c 5 t := by dsimp only [held]
theorem after0_6 (c : Dev nD) (t : Fin cfg0.N) : (held m 0 c).after 6 t = iblk m c 6 t := by dsimp only [held]
theorem after0_7 (c : Dev nD) (t : Fin cfg0.N) : (held m 0 c).after 7 t = iblk m c 7 t := by dsimp only [held]
theorem after0_8 (c : Dev nD) (t : Fin cfg0.N) : (held m 0 c).after 8 t = iblk m c 8 t := by dsimp only [held]
theorem after0_9 (c : Dev nD) (t : Fin cfg0.N) : (held m 0 c).after 9 t = iblk m c 9 t := by dsimp only [held]
theorem after0_10 (c : Dev nD) (t : Fin cfg0.N) : (held m 0 c).after 10 t = iblk m c 10 t := by dsimp only [held]

/-- Before the body an input's tile is its block. -/
theorem before0_0 (c : Dev nD) (t : Fin cfg0.N) (d) : (held m 0 c).before 0 t d = iblk m c 0 t :=
  before0_0_of m (held m 0 c) (A_eq m c 0) (after0_0 m c) t d
theorem before0_1 (c : Dev nD) (t : Fin cfg0.N) (d) : (held m 0 c).before 1 t d = iblk m c 1 t :=
  before0_1_of m (held m 0 c) (A_eq m c 1) (after0_1 m c) t d
theorem before0_2 (c : Dev nD) (t : Fin cfg0.N) (d) : (held m 0 c).before 2 t d = iblk m c 2 t :=
  before0_2_of m (held m 0 c) (A_eq m c 2) (after0_2 m c) t d
theorem before0_3 (c : Dev nD) (t : Fin cfg0.N) (d) : (held m 0 c).before 3 t d = iblk m c 3 t :=
  before0_3_of m (held m 0 c) (A_eq m c 3) (after0_3 m c) t d
theorem before0_4 (c : Dev nD) (t : Fin cfg0.N) (d) : (held m 0 c).before 4 t d = iblk m c 4 t :=
  before0_4_of m (held m 0 c) (A_eq m c 4) (after0_4 m c) t d
theorem before0_5 (c : Dev nD) (t : Fin cfg0.N) (d) : (held m 0 c).before 5 t d = iblk m c 5 t :=
  before0_5_of m (held m 0 c) (A_eq m c 5) (after0_5 m c) t d
theorem before0_6 (c : Dev nD) (t : Fin cfg0.N) (d) : (held m 0 c).before 6 t d = iblk m c 6 t :=
  before0_6_of m (held m 0 c) (A_eq m c 6) (after0_6 m c) t d
theorem before0_7 (c : Dev nD) (t : Fin cfg0.N) (d) : (held m 0 c).before 7 t d = iblk m c 7 t :=
  before0_7_of m (held m 0 c) (A_eq m c 7) (after0_7 m c) t d
theorem before0_8 (c : Dev nD) (t : Fin cfg0.N) (d) : (held m 0 c).before 8 t d = iblk m c 8 t :=
  before0_8_of m (held m 0 c) (A_eq m c 8) (after0_8 m c) t d
theorem before0_9 (c : Dev nD) (t : Fin cfg0.N) (d) : (held m 0 c).before 9 t d = iblk m c 9 t :=
  before0_9_of m (held m 0 c) (A_eq m c 9) (after0_9 m c) t d
theorem before0_10 (c : Dev nD) (t : Fin cfg0.N) (d) : (held m 0 c).before 10 t d = iblk m c 10 t :=
  before0_10_of m (held m 0 c) (A_eq m c 10) (after0_10 m c) t d

/-- What the body gets at a point. -/
def given (c : Dev nD) (t : Fin cfg0.N) : sProp 𝕄 :=
  iprop((held m 0 c).Φ t.castSucc ∗ (held m 0 c).owesAt () t.castSucc
    ∗ (∃ d, owns (c : Thread nD τ) (ms0_0 t) fullShare ((held m 0 c).before 0 t d))
    ∗ (∃ d, owns (c : Thread nD τ) (ms0_1 t) fullShare ((held m 0 c).before 1 t d))
    ∗ (∃ d, owns (c : Thread nD τ) (ms0_2 t) fullShare ((held m 0 c).before 2 t d))
    ∗ (∃ d, owns (c : Thread nD τ) (ms0_3 t) fullShare ((held m 0 c).before 3 t d))
    ∗ (∃ d, owns (c : Thread nD τ) (ms0_4 t) fullShare ((held m 0 c).before 4 t d))
    ∗ (∃ d, owns (c : Thread nD τ) (ms0_5 t) fullShare ((held m 0 c).before 5 t d))
    ∗ (∃ d, owns (c : Thread nD τ) (ms0_6 t) fullShare ((held m 0 c).before 6 t d))
    ∗ (∃ d, owns (c : Thread nD τ) (ms0_7 t) fullShare ((held m 0 c).before 7 t d))
    ∗ (∃ d, owns (c : Thread nD τ) (ms0_8 t) fullShare ((held m 0 c).before 8 t d))
    ∗ (∃ d, owns (c : Thread nD τ) (ms0_9 t) fullShare ((held m 0 c).before 9 t d))
    ∗ (∃ d, owns (c : Thread nD τ) (ms0_10 t) fullShare ((held m 0 c).before 10 t d))
    ∗ (∃ d, owns (c : Thread nD τ) (ms0_11 t) fullShare d))

/-- What the body leaves at a point. -/
def left (c : Dev nD) (t : Fin cfg0.N) : sProp 𝕄 :=
  iprop((held m 0 c).Φ t.succ ∗ (held m 0 c).owesAt () t.succ
    ∗ owns (c : Thread nD τ) (ms0_0 t) fullShare ((held m 0 c).after 0 t)
    ∗ owns (c : Thread nD τ) (ms0_1 t) fullShare ((held m 0 c).after 1 t)
    ∗ owns (c : Thread nD τ) (ms0_2 t) fullShare ((held m 0 c).after 2 t)
    ∗ owns (c : Thread nD τ) (ms0_3 t) fullShare ((held m 0 c).after 3 t)
    ∗ owns (c : Thread nD τ) (ms0_4 t) fullShare ((held m 0 c).after 4 t)
    ∗ owns (c : Thread nD τ) (ms0_5 t) fullShare ((held m 0 c).after 5 t)
    ∗ owns (c : Thread nD τ) (ms0_6 t) fullShare ((held m 0 c).after 6 t)
    ∗ owns (c : Thread nD τ) (ms0_7 t) fullShare ((held m 0 c).after 7 t)
    ∗ owns (c : Thread nD τ) (ms0_8 t) fullShare ((held m 0 c).after 8 t)
    ∗ owns (c : Thread nD τ) (ms0_9 t) fullShare ((held m 0 c).after 9 t)
    ∗ owns (c : Thread nD τ) (ms0_10 t) fullShare ((held m 0 c).after 10 t)
    ∗ (∃ d, owns (c : Thread nD τ) (ms0_11 t) fullShare d))

set_option maxHeartbeats 1200000 in
/-- The body takes the one to the other. -/
theorem point_sound (c : Dev nD) (t : Fin cfg0.N) :
    given m c t ⊢ wp frame (wpE (defs₀ (F := F)) Variants.none c none) Set.univ (bodyAt0 t) (fun _ => left m c t) := by
  unfold given left bodyAt0
  simp only [before0_0, before0_1, before0_2, before0_3, before0_4, before0_5, before0_6, before0_7, before0_8, before0_9, before0_10]
  rw [show (held m 0 c).Φ t.succ = (held m 0 c).Φ t.castSucc from rfl,
    show (held m 0 c).owesAt () t.succ = (held m 0 c).owesAt () t.castSucc from rfl,
    after0_0, after0_1, after0_2, after0_3, after0_4, after0_5, after0_6, after0_7, after0_8, after0_9, after0_10]
  rw [show (held m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((point_runs c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  iintro ⟨H0, H1, H2, H3, H4, H5, H6, H7, H8, H9, H10, H11, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body's entry in the table of definitions, at a point's slots. -/
theorem defs₀_row (t : Fin cfg0.N) :
    defs₀ (F := F) .tc cfg0.body (cfg0.bodyArgs t (cfg0.slots t)) = bodyAt0 t := by
  unfold defs₀; rw [Defs.onTc_tc]

/-- The pipeline's obligation of the body, at every point. -/
theorem body_obligation (c : Dev nD) : BodyObligation (held (F := F) m 0 c) (defs₀ (F := F)) Variants.none () Set.univ unstated := fun t => by
  rw [bigSep_W0, bigSep_W0, defs₀_row]
  exact triple_restated (point_sound m c t) rfl .rfl fun _ => .rfl

set_option backward.isDefEq.respectTransparency.types false in
/-- The launch: every run ends, in a state in which the inputs' arrays are as they were and every counter is zero. -/
theorem launch_quiescent : θ_run defs (onTc (τ := τ) (main (F := F))) (s₀ m ρ) (fun r => (Pipeline.RDat.FramePost (cfgs 0) (fun c => (held m 0 c).toRForget unstated) (V m)) r ∧ r.2.sem = fun _ => 0) :=
  Pipeline.θ_run_frame_forget_shared (Q' := _) cfgs (held m) (0 : Fin 1) launch₀0 defs₀ Variants.none unstated m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem launch : θ_run defs (onTc (τ := τ) (main (F := F))) (s₀ m ρ) (Pipeline.RDat.FramePost (cfgs 0) (fun c => (held m 0 c).toRForget unstated) (V m)) :=
  (θ_run defs _ _).mono (fun _ h => h.1) (launch_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 1 rfl).trans ((A_eq m c 1).trans (V_main_arg0 m c)),
      (Pipeline.RDat.FramePost.arr_in h c 3 rfl).trans ((A_eq m c 3).trans (V_main_arg1 m c)),
      (Pipeline.RDat.FramePost.arr_in h c 6 rfl).trans ((A_eq m c 6).trans (V_main_arg2 m c)),
      (Pipeline.RDat.FramePost.arr_in h c 7 rfl).trans ((A_eq m c 7).trans (V_main_arg3 m c)),
      (Pipeline.RDat.FramePost.arr_in h c 8 rfl).trans ((A_eq m c 8).trans (V_main_arg4 m c)),
      (Pipeline.RDat.FramePost.arr_in h c 9 rfl).trans ((A_eq m c 9).trans (V_main_arg5 m c))⟩) (launch m ρ)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (launch_quiescent m ρ))

/-- The frame of the idealized scan. -/
theorem frame_ideal : Cert.quiescent_KernelIdeal := fun m ρ _ => frame m ρ

/-- The frame of the scan: the two programs have the same text. -/
theorem frame_kernel : Cert.quiescent_Kernel := by
  intro m ρ _
  rw [defs_same, main_same]
  exact (θ_run Cert.KernelIdeal.defs _ _).mono (fun _ h => h) (frame (F := Bits) m ρ)

end Cert.Proof.Scan

end
-- ==== Proof.Gate.Value.lean ====
/- The gates' input projection: a forget gate is the lower bound plus the rest of it times the logistic of the
   projection, the lower bound a softmax's first row over the parameter's two; the key is one minus the gate. -/
module

public import proofs.«01_k».proof.Defs
public import proofs.«01_k».proof.Proof.Gen.Kernel2Ideal.Value
public import proofs.«01_k».proof.Proof.Gen.Reference2Ideal.Run
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.Gate

open Cert.Kernel2Ideal Cert.Kernel2Ideal.Gen Cert.Kernel2Ideal.Value

variable {F : FTy → Type} [FloatOps F]
variable (m : (ℓ : Loc nD τ sig) → Buf (Elt F) ℓ)

theorem origin : (![0, 0] : Fin 2 → Nat) = fun _ => 0 := funext fun a => by fin_cases a <;> rfl

/-- What a point of the first row of tiles leaves in the scratch: the weight tile, rounded. -/
theorem scratch_first (c : Dev nD) (i : grid0.Coords) (a2 : Memref sig .tc .vmem S1024x4096 .bf16) (h2 : a2.IsWhole)
    (a3 : Memref sig .tc .vmem S2x512 .f32) (h3 : a3.IsWhole) (a4 : Memref sig .tc .vmem S4096x512 .f32) (h4 : a4.IsWhole)
    (a5 : Memref sig .tc .vmem S1024x512 .f32) (h5 : a5.IsWhole) (a6 : Memref sig .tc .vmem S1024x512 .bf16) (h6 : a6.IsWhole)
    (a7 : Memref sig .tc .vmem S4096x512 .bf16) (h7 : a7.IsWhole) (hc : cond0_0 i)
    (x : Vec F S1024x4096 .bf16) (p : Vec F S2x512 .f32) (w : Vec F S4096x512 .f32) : sout0_A_0 c i a2 h2 a3 h3 a4 h4 a5 h5 a6 h6 a7 h7 hc x p w = k0_pay1 w := by
  unfold sout0_A_0
  rw [View.read_writes_eq_canon _ _ _ (scover0_A_0 c i a2 h2 a3 h3 a4 h4 a5 h5 a6 h6 a7 h7 hc x p w)]
  unfold kernelRun0_A
  dsimp only
  sl_unfold_words
  rw [View.canon_unit_zero origin]
  simp only [View.readAt_eq_ld, h2.read_unread, h3.read_unread, h4.read_unread,
    View.ld_unit_zero (S := S1024x4096) origin, View.ld_unit_zero (S := S2x512) origin, View.ld_unit_zero (S := S4096x512) origin]

/-- What it leaves in the gates' tile, with that rounded weight tile. -/
theorem out_first3 (c : Dev nD) (i : grid0.Coords) (a2 : Memref sig .tc .vmem S1024x4096 .bf16) (h2 : a2.IsWhole)
    (a3 : Memref sig .tc .vmem S2x512 .f32) (h3 : a3.IsWhole) (a4 : Memref sig .tc .vmem S4096x512 .f32) (h4 : a4.IsWhole)
    (a5 : Memref sig .tc .vmem S1024x512 .f32) (h5 : a5.IsWhole) (a6 : Memref sig .tc .vmem S1024x512 .bf16) (h6 : a6.IsWhole)
    (a7 : Memref sig .tc .vmem S4096x512 .bf16) (h7 : a7.IsWhole) (hc : cond0_0 i)
    (x : Vec F S1024x4096 .bf16) (p : Vec F S2x512 .f32) (w : Vec F S4096x512 .f32) : out0_A_3 c i a2 h2 a3 h3 a4 h4 a5 h5 a6 h6 a7 h7 hc x p w = k0_pay2 x (k0_pay1 w) p := by
  unfold out0_A_3
  rw [View.read_writes_eq_canon _ _ _ (cover0_A_3 c i a2 h2 a3 h3 a4 h4 a5 h5 a6 h6 a7 h7 hc x p w)]
  unfold kernelRun0_A
  dsimp only
  sl_unfold_words
  rw [View.canon_unit_zero origin, View.readCov_unit_zero (S := S4096x512) _ origin]
  simp only [View.readAt_eq_ld, h2.read_unread, h3.read_unread, h4.read_unread,
    View.ld_unit_zero (S := S1024x4096) origin, View.ld_unit_zero (S := S2x512) origin, View.ld_unit_zero (S := S4096x512) origin]

/-- At every other point: the same with what the scratch holds. -/
theorem out_later3 (c : Dev nD) (i : grid0.Coords) (a2 : Memref sig .tc .vmem S1024x4096 .bf16) (h2 : a2.IsWhole)
    (a3 : Memref sig .tc .vmem S2x512 .f32) (h3 : a3.IsWhole) (a4 : Memref sig .tc .vmem S4096x512 .f32) (h4 : a4.IsWhole)
    (a5 : Memref sig .tc .vmem S1024x512 .f32) (h5 : a5.IsWhole) (a6 : Memref sig .tc .vmem S1024x512 .bf16) (h6 : a6.IsWhole)
    (a7 : Memref sig .tc .vmem S4096x512 .bf16) (h7 : a7.IsWhole) (hc : ¬cond0_0 i)
    (x : Vec F S1024x4096 .bf16) (p : Vec F S2x512 .f32) (w : Vec F S4096x512 .f32)
    (s : Vec F S4096x512 .bf16) : out0_B_3 c i a2 h2 a3 h3 a4 h4 a5 h5 a6 h6 a7 h7 hc x p w s = k0_pay2 x s p := by
  unfold out0_B_3
  rw [View.read_writes_eq_canon _ _ _ (cover0_B_3 c i a2 h2 a3 h3 a4 h4 a5 h5 a6 h6 a7 h7 hc x p w s)]
  unfold kernelRun0_B
  dsimp only
  sl_unfold_words
  rw [View.canon_unit_zero origin]
  simp only [View.readAt_eq_ld, h7.read_unread, h2.read_unread, h3.read_unread, h4.read_unread,
    View.ld_unit_zero (S := S1024x4096) origin, View.ld_unit_zero (S := S2x512) origin, View.ld_unit_zero (S := S4096x512) origin]

/-- What it leaves in the keys' tile, with that rounded weight tile. -/
theorem out_first4 (c : Dev nD) (i : grid0.Coords) (a2 : Memref sig .tc .vmem S1024x4096 .bf16) (h2 : a2.IsWhole)
    (a3 : Memref sig .tc .vmem S2x512 .f32) (h3 : a3.IsWhole) (a4 : Memref sig .tc .vmem S4096x512 .f32) (h4 : a4.IsWhole)
    (a5 : Memref sig .tc .vmem S1024x512 .f32) (h5 : a5.IsWhole) (a6 : Memref sig .tc .vmem S1024x512 .bf16) (h6 : a6.IsWhole)
    (a7 : Memref sig .tc .vmem S4096x512 .bf16) (h7 : a7.IsWhole) (hc : cond0_0 i)
    (x : Vec F S1024x4096 .bf16) (p : Vec F S2x512 .f32) (w : Vec F S4096x512 .f32) : out0_A_4 c i a2 h2 a3 h3 a4 h4 a5 h5 a6 h6 a7 h7 hc x p w = k0_pay3 x (k0_pay1 w) p := by
  unfold out0_A_4
  rw [View.read_writes_eq_canon _ _ _ (cover0_A_4 c i a2 h2 a3 h3 a4 h4 a5 h5 a6 h6 a7 h7 hc x p w)]
  unfold kernelRun0_A
  dsimp only
  sl_unfold_words
  rw [View.canon_unit_zero origin, View.readCov_unit_zero (S := S4096x512) _ origin]
  simp only [View.readAt_eq_ld, h2.read_unread, h3.read_unread, h4.read_unread,
    View.ld_unit_zero (S := S1024x4096) origin, View.ld_unit_zero (S := S2x512) origin, View.ld_unit_zero (S := S4096x512) origin]

/-- At every other point: the same with what the scratch holds. -/
theorem out_later4 (c : Dev nD) (i : grid0.Coords) (a2 : Memref sig .tc .vmem S1024x4096 .bf16) (h2 : a2.IsWhole)
    (a3 : Memref sig .tc .vmem S2x512 .f32) (h3 : a3.IsWhole) (a4 : Memref sig .tc .vmem S4096x512 .f32) (h4 : a4.IsWhole)
    (a5 : Memref sig .tc .vmem S1024x512 .f32) (h5 : a5.IsWhole) (a6 : Memref sig .tc .vmem S1024x512 .bf16) (h6 : a6.IsWhole)
    (a7 : Memref sig .tc .vmem S4096x512 .bf16) (h7 : a7.IsWhole) (hc : ¬cond0_0 i)
    (x : Vec F S1024x4096 .bf16) (p : Vec F S2x512 .f32) (w : Vec F S4096x512 .f32)
    (s : Vec F S4096x512 .bf16) : out0_B_4 c i a2 h2 a3 h3 a4 h4 a5 h5 a6 h6 a7 h7 hc x p w s = k0_pay3 x s p := by
  unfold out0_B_4
  rw [View.read_writes_eq_canon _ _ _ (cover0_B_4 c i a2 h2 a3 h3 a4 h4 a5 h5 a6 h6 a7 h7 hc x p w s)]
  unfold kernelRun0_B
  dsimp only
  sl_unfold_words
  rw [View.canon_unit_zero origin]
  simp only [View.readAt_eq_ld, h7.read_unread, h2.read_unread, h3.read_unread, h4.read_unread,
    View.ld_unit_zero (S := S1024x4096) origin, View.ld_unit_zero (S := S2x512) origin, View.ld_unit_zero (S := S4096x512) origin]

/-- The tiles' places: point `t` is row tile `t % 8` and column tile `t / 8`. -/
theorem places : ∀ t : Fin cfg0.N,
    (win0_0.index t (0 : Fin 2) = t.val % 8 ∧ win0_0.index t (1 : Fin 2) = 0)
    ∧ (win0_1.index t (0 : Fin 2) = 0 ∧ win0_1.index t (1 : Fin 2) = t.val / 8)
    ∧ (win0_2.index t (0 : Fin 2) = 0 ∧ win0_2.index t (1 : Fin 2) = t.val / 8)
    ∧ (win0_3.index t (0 : Fin 2) = t.val % 8 ∧ win0_3.index t (1 : Fin 2) = t.val / 8)
    ∧ (win0_4.index t (0 : Fin 2) = t.val % 8 ∧ win0_4.index t (1 : Fin 2) = t.val / 8) :=
  (by decide +kernel : ∀ t : Fin grid0.N, _)

/-- The row tile point `t` reads. -/
def rows (c : Dev nD) (t : Fin cfg0.N) : Vec F S1024x4096 .bf16 := iblk m c 0 t

/-- Its entry. -/
theorem rows_at (c : Dev nD) (t : Fin cfg0.N) (y : S1024x4096.Idx) (i : S8192x4096.Idx)
    (h0 : (i 0).val = 1024 * (t.val % 8) + (y 0).val) (h1 : (i 1).val = (y 1).val) :
    rows m c t y = (m ((c : Thread nD τ).loc main_arg0) : Vec F S8192x4096 .bf16) i := by
  obtain ⟨⟨e0, e1⟩, -⟩ := places t
  unfold rows iblk
  rw [View.read_apply]
  show V m c main_arg0 _ = m (c.tc.loc main_arg0) _
  rw [V_main_arg0]
  congr 1
  funext a
  apply Fin.ext
  match a with
  | ⟨0, _⟩ => show win0_0.index t 0 * 1024 + 1 * (y 0).val = _; rw [e0]; exact Eq.trans (by omega) h0.symm
  | ⟨1, _⟩ => show win0_0.index t 1 * 4096 + 1 * (y 1).val = _; rw [e1]; exact Eq.trans (by omega) h1.symm

/-- The parameter tile point `t` reads. -/
def params (c : Dev nD) (t : Fin cfg0.N) : Vec F S2x512 .f32 := iblk m c 1 t

/-- Its entry. -/
theorem params_at (c : Dev nD) (t : Fin cfg0.N) (y : S2x512.Idx) (i : S2x4096.Idx)
    (h0 : (i 0).val = (y 0).val) (h1 : (i 1).val = 512 * (t.val / 8) + (y 1).val) :
    params m c t y = (m ((c : Thread nD τ).loc main_arg1) : Vec F S2x4096 .f32) i := by
  obtain ⟨-, ⟨e0, e1⟩, -⟩ := places t
  unfold params iblk
  rw [View.read_apply]
  show V m c main_arg1 _ = m (c.tc.loc main_arg1) _
  rw [V_main_arg1]
  congr 1
  funext a
  apply Fin.ext
  match a with
  | ⟨0, _⟩ => show win0_1.index t 0 * 2 + 1 * (y 0).val = _; rw [e0]; exact Eq.trans (by omega) h0.symm
  | ⟨1, _⟩ => show win0_1.index t 1 * 512 + 1 * (y 1).val = _; rw [e1]; exact Eq.trans (by omega) h1.symm

/-- The weight tile point `t` reads. -/
def weights (c : Dev nD) (t : Fin cfg0.N) : Vec F S4096x512 .f32 := iblk m c 2 t

/-- Its entry. -/
theorem weights_at (c : Dev nD) (t : Fin cfg0.N) (y : S4096x512.Idx) (i : S4096x12288.Idx)
    (h0 : (i 0).val = (y 0).val) (h1 : (i 1).val = 512 * (t.val / 8) + (y 1).val) :
    weights m c t y = (m ((c : Thread nD τ).loc main_arg2) : Vec F S4096x12288 .f32) i := by
  obtain ⟨-, -, ⟨e0, e1⟩, -⟩ := places t
  unfold weights iblk
  rw [View.read_apply]
  show V m c main_arg2 _ = m (c.tc.loc main_arg2) _
  rw [V_main_arg2]
  congr 1
  funext a
  apply Fin.ext
  match a with
  | ⟨0, _⟩ => show win0_2.index t 0 * 4096 + 1 * (y 0).val = _; rw [e0]; exact Eq.trans (by omega) h0.symm
  | ⟨1, _⟩ => show win0_2.index t 1 * 512 + 1 * (y 1).val = _; rw [e1]; exact Eq.trans (by omega) h1.symm

/-- Points of one column of tiles read one weight tile. -/
theorem weights_same (c : Dev nD) (t t' : Fin cfg0.N) (h : t.val / 8 = t'.val / 8) : weights m c t = weights m c t' := by
  have hN : cfg0.N = 64 := N_0
  have ht := t.isLt
  funext y
  have hy0 : (y 0).val < 4096 := (y 0).isLt
  have hy1 : (y 1).val < 512 := (y 1).isLt
  have hi : 512 * (t.val / 8) + (y 1).val < 12288 := by omega
  rw [weights_at m c t y (ix2 ⟨(y 0).val, hy0⟩ ⟨_, hi⟩) rfl rfl,
    weights_at m c t' y (ix2 ⟨(y 0).val, hy0⟩ ⟨_, hi⟩) rfl (by rw [← h]; rfl)]

/-- After a point of the first row of tiles the scratch holds that point's weight tile, rounded. -/
theorem scratch_A (c : Dev nD) (t : Fin cfg0.N) (h0 : t.val % 8 = 0) : (outsAt0 m c t.val t.isLt).2.2 = k0_pay1 (weights m c t) := by
  rw [outsAt0_A m c t h0]
  dsimp only
  rw [scratch_first]
  rfl

/-- At every other point the scratch is kept. -/
theorem scratch_B (c : Dev nD) (t : Fin cfg0.N) (h0 : ¬t.val % 8 = 0) : (outsAt0 m c t.val t.isLt).2.2
    = (outsAt0 m c (t.val - 1) (Nat.lt_of_le_of_lt (Nat.sub_le _ _) t.isLt)).2.2 := by
  rw [outsAt0_B m c t h0]
  dsimp only
  unfold sout0_B_0
  rfl

/-- After every point the scratch holds that point's weight tile, rounded. -/
theorem scratch_eq (c : Dev nD) (n : ℕ) : ∀ h : n < cfg0.N, (outsAt0 m c n h).2.2 = k0_pay1 (weights m c ⟨n, h⟩) := by
  induction n with
  | zero => exact fun h => scratch_A m c ⟨0, h⟩ (Nat.zero_mod _)
  | succ n ih =>
    intro h
    by_cases h0 : (n + 1) % 8 = 0
    · exact scratch_A m c ⟨n + 1, h⟩ h0
    · have hn : n < cfg0.N := Nat.lt_of_succ_lt h
      have e : weights m c ⟨n, hn⟩ = weights m c ⟨n + 1, h⟩ := weights_same m c _ _ (by show n / 8 = (n + 1) / 8; omega)
      exact (scratch_B m c ⟨n + 1, h⟩ h0).trans ((ih hn).trans (congrArg k0_pay1 e))

/-- So every point leaves the gates' payload of its own tiles. -/
theorem tile_eq3 (c : Dev nD) (t : Fin cfg0.N) :
    (outsAt0 m c t.val t.isLt).1 = k0_pay2 (rows m c t) (k0_pay1 (weights m c t)) (params m c t) := by
  by_cases h0 : t.val % 8 = 0
  · rw [outsAt0_A m c t h0]
    dsimp only
    rw [out_first3]
    rfl
  · have hp : t.val - 1 < cfg0.N := Nat.lt_of_le_of_lt (Nat.sub_le _ _) t.isLt
    have e : weights m c ⟨t.val - 1, hp⟩ = weights m c t := weights_same m c _ _ (by show (t.val - 1) / 8 = t.val / 8; omega)
    rw [outsAt0_B m c t h0]
    dsimp only
    rw [out_later3, scratch_eq m c (t.val - 1) hp, e]
    rfl

/-- So every point leaves the keys' payload of its own tiles. -/
theorem tile_eq4 (c : Dev nD) (t : Fin cfg0.N) :
    (outsAt0 m c t.val t.isLt).2.1 = k0_pay3 (rows m c t) (k0_pay1 (weights m c t)) (params m c t) := by
  by_cases h0 : t.val % 8 = 0
  · rw [outsAt0_A m c t h0]
    dsimp only
    rw [out_first4]
    rfl
  · have hp : t.val - 1 < cfg0.N := Nat.lt_of_le_of_lt (Nat.sub_le _ _) t.isLt
    have e : weights m c ⟨t.val - 1, hp⟩ = weights m c t := weights_same m c _ _ (by show (t.val - 1) / 8 = t.val / 8; omega)
    rw [outsAt0_B m c t h0]
    dsimp only
    rw [out_later4, scratch_eq m c (t.val - 1) hp, e]
    rfl

/-- The largest of a column's two parameters. -/
def top (q : Fin 2 → EReal) : EReal := Finset.fold max (Ideal.ofBits .f32 4286578688#32) q Finset.univ

/-- A column's lower bound: the first of the softmax of its two parameters. -/
def bound (q : Fin 2 → EReal) : EReal := Ideal.div (Ideal.exp (q 0 - top q)) (∑ r, Ideal.exp (q r - top q))

/-- A gate, of its column's parameters and its projection. -/
def gate (q : Fin 2 → EReal) (z : EReal) : EReal := bound q + (1 - bound q) * Ideal.logistic z

/-- The weight's column for a gate's. -/
def wide (j : Fin 4096) : Fin 12288 := ⟨j.val, by omega⟩

/-- The forget gates. -/
def forget (x : FVec Ideal S8192x4096 .bf16) (p : FVec Ideal S2x4096 .f32) (w : FVec Ideal S4096x12288 .f32) :
    FVec Ideal S8192x4096 .f32 := fun i =>
  gate (fun r => p (ix2 r (i 1))) (∑ k : Fin 4096, x (ix2 (i 0) k) * w (ix2 k (wide (i 1))))

/-- The keys. -/
def keys (x : FVec Ideal S8192x4096 .bf16) (p : FVec Ideal S2x4096 .f32) (w : FVec Ideal S4096x12288 .f32) :
    FVec Ideal S8192x4096 .bf16 := fun i => 1 - forget x p w i

/-- A point's payload for the gates, entry by entry. -/
theorem payload_at3 (x : FVec Ideal S1024x4096 .bf16) (p : FVec Ideal S2x512 .f32) (w : FVec Ideal S4096x512 .f32) (y : S1024x512.Idx) :
    k0_pay2 (F := Ideal) x (k0_pay1 (F := Ideal) w) p y
      = gate (fun r => p (ix2 r (y 1))) (∑ k : Fin 4096, x (ix2 (y 0) k) * w (ix2 k (y 1))) := by
  unfold gate bound top
  pointwise [k0_pay2, k0_pay1]

/-- A point's payload for the keys, entry by entry. -/
theorem payload_at4 (x : FVec Ideal S1024x4096 .bf16) (p : FVec Ideal S2x512 .f32) (w : FVec Ideal S4096x512 .f32) (y : S1024x512.Idx) :
    k0_pay3 (F := Ideal) x (k0_pay1 (F := Ideal) w) p y
      = 1 - gate (fun r => p (ix2 r (y 1))) (∑ k : Fin 4096, x (ix2 (y 0) k) * w (ix2 k (y 1))) := by
  rw [← payload_at3]
  unfold k0_pay3
  generalize k0_pay2 (F := Ideal) x (k0_pay1 (F := Ideal) w) p = f
  pointwise

/-- The gates of the kernel's arguments. -/
def result3 (m : (ℓ : Loc nD τ sig) → Buf (Elt Ideal) ℓ) (c : Dev nD) : FVec Ideal S8192x4096 .f32 :=
  forget (m ((c : Thread nD τ).loc main_arg0)) (m ((c : Thread nD τ).loc main_arg1)) (m ((c : Thread nD τ).loc main_arg2))

/-- The keys of the kernel's arguments. -/
def result4 (m : (ℓ : Loc nD τ sig) → Buf (Elt Ideal) ℓ) (c : Dev nD) : FVec Ideal S8192x4096 .bf16 :=
  keys (m ((c : Thread nD τ).loc main_arg0)) (m ((c : Thread nD τ).loc main_arg1)) (m ((c : Thread nD τ).loc main_arg2))

/-- A point's gate is the result's at its place. -/
theorem gate_at (m : (ℓ : Loc nD τ sig) → Buf (Elt Ideal) ℓ) (c : Dev nD) (t : Fin cfg0.N) (y : S1024x512.Idx) (i : S8192x4096.Idx)
    (h0 : (i 0).val = 1024 * (t.val % 8) + (y 0).val) (h1 : (i 1).val = 512 * (t.val / 8) + (y 1).val) :
    gate (fun r => params m c t (ix2 r (y 1))) (∑ k : Fin 4096, rows m c t (ix2 (y 0) k) * weights m c t (ix2 k (y 1))) = result3 m c i := by
  unfold result3 forget
  congr 1
  · funext r
    exact params_at m c t (ix2 r (y 1)) (ix2 r (i 1)) rfl h1
  · refine Finset.sum_congr rfl fun k _ => ?_
    rw [rows_at m c t (ix2 (y 0) k) (ix2 (i 0) k) h0 rfl, weights_at m c t (ix2 k (y 1)) (ix2 k (wide (i 1))) rfl h1]

/-- What a point writes back is its block of the result. -/
theorem flushed_eq3 (m : (ℓ : Loc nD τ sig) → Buf (Elt Ideal) ℓ) (c : Dev nD) (t : Fin cfg0.N) :
    (dats m 0 c).flushed 3 t = ((cfg0.win 3).blk t).view.read (Elt Ideal) (result3 m c) := by
  obtain ⟨-, -, -, ⟨e0, e1⟩, -⟩ := places t
  rw [flushed3, tile_eq3]
  funext y
  rw [View.read_apply]
  have h0 : (((cfg0.win 3).blk t).view.emb y 0).val = 1024 * (t.val % 8) + (y 0).val := by
    show win0_3.index t 0 * 1024 + 1 * (y 0).val = _; rw [e0]; omega
  have h1 : (((cfg0.win 3).blk t).view.emb y 1).val = 512 * (t.val / 8) + (y 1).val := by
    show win0_3.index t 1 * 512 + 1 * (y 1).val = _; rw [e1]; omega
  exact (payload_at3 (rows m c t) (params m c t) (weights m c t) y).trans
    (gate_at m c t y (((cfg0.win 3).blk t).view.emb y) h0 h1)

/-- The result array after the run. -/
theorem final_3 (m : (ℓ : Loc nD τ sig) → Buf (Elt Ideal) ℓ) (c : Dev nD) : (dats m 0 c).arrAt 3 cfg0.N = result3 m c :=
  (dats m 0 c).arrAt_eq_of_cover 3 _ (fun t _ => flushed_eq3 m c t) (fun i => (covered_iff3 i).2 (by
    have h0 : (i 0).val < 8192 := (i 0).isLt; have h1 : (i 1).val < 4096 := (i 1).isLt; omega))

/-- What a point writes back is its block of the result. -/
theorem flushed_eq4 (m : (ℓ : Loc nD τ sig) → Buf (Elt Ideal) ℓ) (c : Dev nD) (t : Fin cfg0.N) :
    (dats m 0 c).flushed 4 t = ((cfg0.win 4).blk t).view.read (Elt Ideal) (result4 m c) := by
  obtain ⟨-, -, -, -, e0, e1⟩ := places t
  rw [flushed4, tile_eq4]
  funext y
  rw [View.read_apply]
  have h0 : (((cfg0.win 4).blk t).view.emb y 0).val = 1024 * (t.val % 8) + (y 0).val := by
    show win0_4.index t 0 * 1024 + 1 * (y 0).val = _; rw [e0]; omega
  have h1 : (((cfg0.win 4).blk t).view.emb y 1).val = 512 * (t.val / 8) + (y 1).val := by
    show win0_4.index t 1 * 512 + 1 * (y 1).val = _; rw [e1]; omega
  exact (payload_at4 (rows m c t) (params m c t) (weights m c t) y).trans
    (congrArg (fun f : EReal => 1 - f) (gate_at m c t y (((cfg0.win 4).blk t).view.emb y) h0 h1))

/-- The result array after the run. -/
theorem final_4 (m : (ℓ : Loc nD τ sig) → Buf (Elt Ideal) ℓ) (c : Dev nD) : (dats m 0 c).arrAt 4 cfg0.N = result4 m c :=
  (dats m 0 c).arrAt_eq_of_cover 4 _ (fun t _ => flushed_eq4 m c t) (fun i => (covered_iff4 i).2 (by
    have h0 : (i 0).val < 8192 := (i 0).isLt; have h1 : (i 1).val < 4096 := (i 1).isLt; omega))

end Cert.Proof.Gate

namespace Cert.Proof.Gate

/-! ## The reference's composed terms -/

section

open Cert.Reference2Ideal

/-- Its columns' largest parameters. -/
def largest (p : FVec Ideal S2x4096 .f32) : FVec Ideal S4096 .f32 :=
  maximumf (broadcastInDim S4096 ![] Facts₀.bcast_S_S4096 (constant S_ .f32 0xFF800000#32)) (Host.reduce FloatOps.maximumf p (constant S_ .f32 0xFF800000#32) Facts₀.reducesTo_S2x4096_S4096_d0 Facts₀.h_S_)

/-- The exponentials of what is left. -/
def shifted (p : FVec Ideal S2x4096 .f32) : FVec Ideal S2x4096 .f32 :=
  Host.exp (subf p (broadcastInDim S2x4096 ![0, 1] Facts₀.bcast_S1x4096_S2x4096_0_1 (broadcastInDim S1x4096 ![1] Facts₀.bcast_S4096_S1x4096_1 (largest p))))

/-- The softmax's first row. -/
def lowerBound (p : FVec Ideal S2x4096 .f32) : FVec Ideal S4096 .f32 :=
  shapeCast S4096 (extractStridedSlice S1x4096 ![0, 0] (Host.divf (shifted p) (broadcastInDim S2x4096 ![0, 1] Facts₀.bcast_S1x4096_S2x4096_0_1 (broadcastInDim S1x4096 ![1] Facts₀.bcast_S4096_S1x4096_1 (Host.reduceAdd (shifted p) (constant S_ .f32 0x00000000#32) Facts₀.reducesTo_S2x4096_S4096_d0 Facts₀.h_S_)))) Facts₀.slices_S2x4096_S1x4096_0_0) Facts₀.shapeCasts_S1x4096_S4096

/-- The gates. -/
def gates (x : FVec Ideal S8192x4096 .bf16) (p : FVec Ideal S2x4096 .f32) (w : FVec Ideal S4096x12288 .f32) : FVec Ideal S8192x4096 .f32 :=
  addf (broadcastInDim S8192x4096 ![0, 1] Facts₀.bcast_S1x4096_S8192x4096_0_1 (broadcastInDim S1x4096 ![1] Facts₀.bcast_S4096_S1x4096_1 (lowerBound p))) (mulf (broadcastInDim S8192x4096 ![0, 1] Facts₀.bcast_S1x4096_S8192x4096_0_1 (broadcastInDim S1x4096 ![1] Facts₀.bcast_S4096_S1x4096_1 (subf (broadcastInDim S4096 ![] Facts₀.bcast_S_S4096 (constant S_ .f32 0x3F800000#32)) (lowerBound p)))) (Host.divf (broadcastInDim S8192x4096 ![] Facts₀.bcast_S_S8192x4096 (constant S_ .f32 0x3F800000#32)) (addf (broadcastInDim S8192x4096 ![] Facts₀.bcast_S_S8192x4096 (constant S_ .f32 0x3F800000#32)) (Host.exp (Host.negf (Host.dotGeneral dot_S8192x4096_S4096x4096_S8192x4096_1_0_0_1_n_n none (extf .f32 x Facts₀.bitsLt_bf16_f32) (extractStridedSlice S4096x4096 ![0, 0] w Facts₀.slices_S4096x12288_S4096x4096_0_0)))))))

/-- Its lower bound, column by column. -/
theorem lowerBound_at (p : FVec Ideal S2x4096 .f32) (j : S4096.Idx) : lowerBound p j = bound (fun r => p (ix2 r (j 0))) := by
  have e : ∀ q : Fin 2 → EReal, max (Ideal.ofBits .f32 4286578688#32) (top q) = top q := fun q =>
    max_eq_right ((Finset.le_fold_max _).2 (Or.inl le_rfl))
  unfold bound
  rw [← e]
  unfold top
  pointwise [lowerBound, shifted, largest]

/-- Its gates, entry by entry. -/
theorem gates_at (x : FVec Ideal S8192x4096 .bf16) (p : FVec Ideal S2x4096 .f32) (w : FVec Ideal S4096x12288 .f32) (i : S8192x4096.Idx) :
    gates x p w i = forget x p w i := by
  unfold forget gate wide Ideal.logistic
  rw [show bound (fun r => p (ix2 r (i 1))) = lowerBound p (ix1 (i 1)) from (lowerBound_at p (ix1 (i 1))).symm]
  unfold gates
  generalize lowerBound p = b
  pointwise

/-- And its keys. -/
theorem keys_at (x : FVec Ideal S8192x4096 .bf16) (p : FVec Ideal S2x4096 .f32) (w : FVec Ideal S4096x12288 .f32) (i : S8192x4096.Idx) :
    truncf (F := Ideal) .bf16 (subf (broadcastInDim S8192x4096 ![] Facts₀.bcast_S_S8192x4096 (constant S_ .f32 0x3F800000#32)) (gates x p w))
      Facts₀.bitsLt_bf16_f32 i = keys x p w i := by
  unfold keys
  rw [← gates_at]
  generalize gates x p w = f
  pointwise

end

section

open Cert.Kernel2Ideal Cert.Kernel2Ideal.Gen Cert.Kernel2Ideal.Value

/-- The claim. -/
theorem claim : Cert.algebraic_Kernel2Ideal_Reference2Ideal := by
  intro m g m' g' _ hargs
  refine ⟨result3 m, result4 m, ?_, ?_⟩
  · exact (θ_run Cert.Kernel2Ideal.defs _ _).mono (fun r h c => ⟨(h c).1.trans (final_3 m c), (h c).2.1.trans (final_4 m c), (h c).2.2⟩)
      (run_blocks m g)
  · refine (θ_run Cert.Reference2Ideal.defs _ _).mono (fun r h c => ⟨(h c).1.trans ?_, (h c).2.1.trans ?_, (h c).2.2⟩)
      (Cert.Reference2Ideal.Value.run m' g')
    · rw [(hargs c).1, (hargs c).2.1, (hargs c).2.2]
      funext i
      exact gates_at (m (c.tc.loc main_arg0)) (m (c.tc.loc main_arg1)) (m (c.tc.loc main_arg2)) i
    · rw [(hargs c).1, (hargs c).2.1, (hargs c).2.2]
      funext i
      exact keys_at (m (c.tc.loc main_arg0)) (m (c.tc.loc main_arg1)) (m (c.tc.loc main_arg2)) i

end

/-- The reference's frame. -/
theorem frame_reference : Cert.quiescent_Reference2Ideal := by
  intro m g _
  exact (θ_run Cert.Reference2Ideal.defs _ _).mono (fun r h => ⟨fun c => (h c).2.2, sem_eq_zero_of_no_sems (by decide) _⟩)
    (Cert.Reference2Ideal.Value.run m g)

end Cert.Proof.Gate

end
-- ==== Proof.Rest.Value.lean ====
/- The remaining input projection: every entry of the result is the sum, over the model width, of a normed token's
   entry times a weight column's, the columns starting past the gates'. -/
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.Rest

open Cert.Kernel3Ideal Cert.Kernel3Ideal.Gen Cert.Kernel3Ideal.Value

variable {F : FTy → Type} [FloatOps F]
variable (m : (ℓ : Loc nD τ sig) → Buf (Elt F) ℓ)

theorem origin : (![0, 0] : Fin 2 → Nat) = fun _ => 0 := funext fun a => by fin_cases a <;> rfl

/-- What a point of the first row of tiles leaves in the scratch: the weight tile, rounded. -/
theorem scratch_first (c : Dev nD) (i : grid0.Coords) (a2 : Memref sig .tc .vmem S1024x4096 .bf16) (h2 : a2.IsWhole)
    (a3 : Memref sig .tc .vmem S4096x512 .f32) (h3 : a3.IsWhole) (a4 : Memref sig .tc .vmem S1024x512 .bf16) (h4 : a4.IsWhole)
    (a5 : Memref sig .tc .vmem S4096x512 .bf16) (h5 : a5.IsWhole) (hc : cond0_0 i)
    (x : Vec F S1024x4096 .bf16) (w : Vec F S4096x512 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero origin]
  simp only [View.readAt_eq_ld, h3.read_unread, View.ld_unit_zero (S := S4096x512) origin]

/-- What it leaves in the result's tile: the product of its rows with that rounded weight tile. -/
theorem out_first (c : Dev nD) (i : grid0.Coords) (a2 : Memref sig .tc .vmem S1024x4096 .bf16) (h2 : a2.IsWhole)
    (a3 : Memref sig .tc .vmem S4096x512 .f32) (h3 : a3.IsWhole) (a4 : Memref sig .tc .vmem S1024x512 .bf16) (h4 : a4.IsWhole)
    (a5 : Memref sig .tc .vmem S4096x512 .bf16) (h5 : a5.IsWhole) (hc : cond0_0 i)
    (x : Vec F S1024x4096 .bf16) (w : Vec F S4096x512 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero origin, View.readCov_unit_zero (S := S4096x512) _ origin]
  simp only [View.readAt_eq_ld, h2.read_unread, h3.read_unread, View.ld_unit_zero (S := S4096x512) origin,
    View.ld_unit_zero (S := S1024x4096) origin]

/-- At every other point: the product of its rows with what the scratch holds. -/
theorem out_later (c : Dev nD) (i : grid0.Coords) (a2 : Memref sig .tc .vmem S1024x4096 .bf16) (h2 : a2.IsWhole)
    (a3 : Memref sig .tc .vmem S4096x512 .f32) (h3 : a3.IsWhole) (a4 : Memref sig .tc .vmem S1024x512 .bf16) (h4 : a4.IsWhole)
    (a5 : Memref sig .tc .vmem S4096x512 .bf16) (h5 : a5.IsWhole) (hc : ¬cond0_0 i)
    (x : Vec F S1024x4096 .bf16) (w : Vec F S4096x512 .f32) (s : Vec F S4096x512 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero origin]
  simp only [View.readAt_eq_ld, h2.read_unread, h5.read_unread, View.ld_unit_zero (S := S4096x512) origin,
    View.ld_unit_zero (S := S1024x4096) origin]

/-- The tiles' places: point `t` reads row tile `t % 8` and weight tile `8 + t / 8`, and writes tile `(t % 8, t / 8)`. -/
theorem places : ∀ t : Fin cfg0.N, win0_0.index t (0 : Fin 2) = t.val % 8 ∧ win0_0.index t (1 : Fin 2) = 0
    ∧ win0_1.index t (0 : Fin 2) = 0 ∧ win0_1.index t (1 : Fin 2) = 8 + t.val / 8
    ∧ win0_2.index t (0 : Fin 2) = t.val % 8 ∧ win0_2.index t (1 : Fin 2) = t.val / 8 :=
  (by decide +kernel : ∀ t : Fin grid0.N, _)

/-- The row tile point `t` reads. -/
def rows (c : Dev nD) (t : Fin cfg0.N) : Vec F S1024x4096 .bf16 := iblk m c 0 t

/-- The weight tile point `t` reads. -/
def weights (c : Dev nD) (t : Fin cfg0.N) : Vec F S4096x512 .f32 := iblk m c 1 t

/-- A row tile's entry. -/
theorem rows_at (c : Dev nD) (t : Fin cfg0.N) (y : S1024x4096.Idx) (i : S8192x4096.Idx)
    (h0 : (i 0).val = 1024 * (t.val % 8) + (y 0).val) (h1 : (i 1).val = (y 1).val) :
    rows m c t y = (m ((c : Thread nD τ).loc main_arg0) : Vec F S8192x4096 .bf16) i := by
  obtain ⟨e0, e1, -⟩ := places t
  unfold rows iblk
  rw [View.read_apply]
  show V m c main_arg0 _ = m (c.tc.loc main_arg0) _
  rw [V_main_arg0]
  congr 1
  funext a
  apply Fin.ext
  match a with
  | ⟨0, _⟩ => show win0_0.index t 0 * 1024 + 1 * (y 0).val = _; rw [e0]; exact Eq.trans (by omega) h0.symm
  | ⟨1, _⟩ => show win0_0.index t 1 * 4096 + 1 * (y 1).val = _; rw [e1]; exact Eq.trans (by omega) h1.symm

/-- A weight tile's entry. -/
theorem weights_at (c : Dev nD) (t : Fin cfg0.N) (y : S4096x512.Idx) (i : S4096x12288.Idx)
    (h0 : (i 0).val = (y 0).val) (h1 : (i 1).val = 4096 + 512 * (t.val / 8) + (y 1).val) :
    weights m c t y = (m ((c : Thread nD τ).loc main_arg1) : Vec F S4096x12288 .f32) i := by
  obtain ⟨-, -, e0, e1, -⟩ := places t
  unfold weights iblk
  rw [View.read_apply]
  show V m c main_arg1 _ = m (c.tc.loc main_arg1) _
  rw [V_main_arg1]
  congr 1
  funext a
  apply Fin.ext
  match a with
  | ⟨0, _⟩ => show win0_1.index t 0 * 4096 + 1 * (y 0).val = _; rw [e0]; exact Eq.trans (by omega) h0.symm
  | ⟨1, _⟩ => show win0_1.index t 1 * 512 + 1 * (y 1).val = _; rw [e1]; exact Eq.trans (by omega) h1.symm

/-- Points of one column of tiles read one weight tile. -/
theorem weights_same (c : Dev nD) (t t' : Fin cfg0.N) (h : t.val / 8 = t'.val / 8) : weights m c t = weights m c t' := by
  have hN : cfg0.N = 128 := N_0
  have ht := t.isLt
  funext y
  have hy0 : (y 0).val < 4096 := (y 0).isLt
  have hy1 : (y 1).val < 512 := (y 1).isLt
  have hi : 4096 + 512 * (t.val / 8) + (y 1).val < 12288 := by omega
  rw [weights_at m c t y (ix2 ⟨(y 0).val, hy0⟩ ⟨_, hi⟩) rfl rfl,
    weights_at m c t' y (ix2 ⟨(y 0).val, hy0⟩ ⟨_, hi⟩) rfl (by rw [← h]; rfl)]

/-- After a point of the first row of tiles the scratch holds that point's weight tile, rounded. -/
theorem scratch_A (c : Dev nD) (t : Fin cfg0.N) (h0 : t.val % 8 = 0) : (outsAt0 m c t.val t.isLt).2 = k0_pay1 (weights m c t) := by
  rw [outsAt0_A m c t h0]
  dsimp only
  rw [scratch_first]
  rfl

/-- At every other point the scratch is kept. -/
theorem scratch_B (c : Dev nD) (t : Fin cfg0.N) (h0 : ¬t.val % 8 = 0) : (outsAt0 m c t.val t.isLt).2
    = (outsAt0 m c (t.val - 1) (Nat.lt_of_le_of_lt (Nat.sub_le _ _) t.isLt)).2 := by
  rw [outsAt0_B m c t h0]
  dsimp only
  unfold sout0_B_0
  rfl

/-- After every point the scratch holds that point's weight tile, rounded. -/
theorem scratch_eq (c : Dev nD) (n : ℕ) : ∀ h : n < cfg0.N, (outsAt0 m c n h).2 = k0_pay1 (weights m c ⟨n, h⟩) := by
  induction n with
  | zero => exact fun h => scratch_A m c ⟨0, h⟩ (Nat.zero_mod _)
  | succ n ih =>
    intro h
    by_cases h0 : (n + 1) % 8 = 0
    · exact scratch_A m c ⟨n + 1, h⟩ h0
    · have hn : n < cfg0.N := Nat.lt_of_succ_lt h
      have e : weights m c ⟨n, hn⟩ = weights m c ⟨n + 1, h⟩ := weights_same m c _ _ (by show n / 8 = (n + 1) / 8; omega)
      exact (scratch_B m c ⟨n + 1, h⟩ h0).trans ((ih hn).trans (congrArg k0_pay1 e))

/-- So every point leaves the product of its rows with its weight tile. -/
theorem tile_eq (c : Dev nD) (t : Fin cfg0.N) :
    (outsAt0 m c t.val t.isLt).1 = k0_pay2 (rows m c t) (k0_pay1 (weights m c t)) := by
  by_cases h0 : t.val % 8 = 0
  · rw [outsAt0_A m c t h0]
    dsimp only
    rw [out_first]
    rfl
  · have hp : t.val - 1 < cfg0.N := Nat.lt_of_le_of_lt (Nat.sub_le _ _) t.isLt
    have e : weights m c ⟨t.val - 1, hp⟩ = weights m c t := weights_same m c _ _ (by show (t.val - 1) / 8 = t.val / 8; omega)
    rw [outsAt0_B m c t h0]
    dsimp only
    rw [out_later, scratch_eq m c (t.val - 1) hp, e]
    rfl

/-- The product's column `j` is the weight's column `4096 + j`. -/
def past (j : Fin 8192) : Fin 12288 := ⟨4096 + j.val, by omega⟩

/-- Every entry of the product: the sum over the model width. -/
def product (x : FVec Ideal S8192x4096 .bf16) (w : FVec Ideal S4096x12288 .f32) : FVec Ideal S8192x8192 .bf16 := fun i =>
  ∑ k : Fin 4096, x (ix2 (i 0) k) * w (ix2 k (past (i 1)))

/-- A point's payload, entry by entry. -/
theorem payload_at (x : FVec Ideal S1024x4096 .bf16) (w : FVec Ideal S4096x512 .f32) (y : S1024x512.Idx) :
    k0_pay2 x (k0_pay1 w) y = ∑ k : Fin 4096, x (ix2 (y 0) k) * w (ix2 k (y 1)) := by
  pointwise [k0_pay2, k0_pay1]

/-- The product of the kernel's arguments. -/
def result (m : (ℓ : Loc nD τ sig) → Buf (Elt Ideal) ℓ) (c : Dev nD) : FVec Ideal S8192x8192 .bf16 :=
  product (m ((c : Thread nD τ).loc main_arg0)) (m ((c : Thread nD τ).loc main_arg1))

/-- What a point computes, placed in the result. -/
theorem tile_at (m : (ℓ : Loc nD τ sig) → Buf (Elt Ideal) ℓ) (c : Dev nD) (t : Fin cfg0.N) (y : S1024x512.Idx) (i : S8192x8192.Idx)
    (h0 : (i 0).val = 1024 * (t.val % 8) + (y 0).val) (h1 : (i 1).val = 512 * (t.val / 8) + (y 1).val) :
    k0_pay2 (rows m c t) (k0_pay1 (weights m c t)) y = result m c i := by
  rw [payload_at]
  unfold result product
  refine Finset.sum_congr rfl fun k _ => ?_
  rw [rows_at m c t (ix2 (y 0) k) (ix2 (i 0) k) h0 rfl, weights_at m c t (ix2 k (y 1)) (ix2 k (past (i 1))) rfl (by
    show 4096 + (i 1).val = 4096 + 512 * (t.val / 8) + (y 1).val; omega)]

/-- What a point writes back is its block of the result. -/
theorem flushed_eq (m : (ℓ : Loc nD τ sig) → Buf (Elt Ideal) ℓ) (c : Dev nD) (t : Fin cfg0.N) :
    (dats m 0 c).flushed 2 t = ((cfg0.win 2).blk t).view.read (Elt Ideal) (result m c) := by
  obtain ⟨-, -, -, -, e0, e1⟩ := places t
  rw [flushed2, tile_eq]
  funext y
  rw [View.read_apply]
  exact tile_at m c t y (((cfg0.win 2).blk t).view.emb y)
    (by show win0_2.index t 0 * 1024 + 1 * (y 0).val = _; rw [e0]; omega)
    (by show win0_2.index t 1 * 512 + 1 * (y 1).val = _; rw [e1]; omega)

/-- The result array after the run. -/
theorem final (m : (ℓ : Loc nD τ sig) → Buf (Elt Ideal) ℓ) (c : Dev nD) : (dats m 0 c).arrAt 2 cfg0.N = result m c :=
  (dats m 0 c).arrAt_eq_of_cover 2 _ (fun t _ => flushed_eq m c t) (fun i => (covered_iff2 i).2 (by
    have h0 : (i 0).val < 8192 := (i 0).isLt; have h1 : (i 1).val < 8192 := (i 1).isLt; omega))

/-- The reference's composed term, entry by entry, is the same sum. -/
theorem reference_eq (x : FVec Ideal Reference3Ideal.S8192x4096 .bf16) (w : FVec Ideal Reference3Ideal.S4096x12288 .f32) (i : S8192x8192.Idx) :
    truncf (F := Ideal) .bf16 (Host.dotGeneral Reference3Ideal.dot_S8192x4096_S4096x8192_S8192x8192_1_0_0_1_n_n none
      (extf .f32 x Reference3Ideal.Facts₀.bitsLt_bf16_f32)
      (extractStridedSlice Reference3Ideal.S4096x8192 ![0, 4096] w Reference3Ideal.Facts₀.slices_S4096x12288_S4096x8192_0_4096))
      Reference3Ideal.Facts₀.bitsLt_bf16_f32 i
    = product x w i := by
  unfold product past
  pointwise

/-- The claim. -/
theorem claim : Cert.algebraic_Kernel3Ideal_Reference3Ideal := by
  intro m g m' g' _ hargs
  refine ⟨result m, ?_, ?_⟩
  · exact (θ_run Cert.Kernel3Ideal.defs _ _).mono (fun r h c => ⟨(h c).1.trans (final m c), (h c).2⟩) (run_blocks m g)
  · refine (θ_run Cert.Reference3Ideal.defs _ _).mono (fun r h c => ⟨(h c).1.trans ?_, (h c).2⟩) (Cert.Reference3Ideal.Value.run m' g')
    rw [(hargs c).1, (hargs c).2]
    funext i
    exact reference_eq (m (c.tc.loc main_arg0)) (m (c.tc.loc main_arg1)) i

/-- The reference's frame. -/
theorem frame_reference : Cert.quiescent_Reference3Ideal := by
  intro m g _
  exact (θ_run Cert.Reference3Ideal.defs _ _).mono (fun r h => ⟨fun c => (h c).2, sem_eq_zero_of_no_sems (by decide) _⟩)
    (Cert.Reference3Ideal.Value.run m g)

end Cert.Proof.Rest

end
-- ==== Proof.Out.Value.lean ====
/- The output projection: every entry of the result is the residual's, plus the sample's gate times the sum, over the
   two mixers' features side by side, of a feature times a weight. -/
module

public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.Out

open Cert.Kernel4Ideal Cert.Kernel4Ideal.Gen Cert.Kernel4Ideal.Value

variable {F : FTy → Type} [FloatOps F]
variable (m : (ℓ : Loc nD τ sig) → Buf (Elt F) ℓ)

theorem origin : (![0, 0] : Fin 2 → Nat) = fun _ => 0 := funext fun a => by fin_cases a <;> rfl

theorem origin3 : (![0, 0, 0] : Fin 3 → Nat) = fun _ => 0 := funext fun a => by fin_cases a <;> rfl

/-- What a point of the first row of tiles leaves in the first scratch: the recurrence's weight tile, rounded. -/
theorem scratch_first (c : Dev nD) (i : grid0.Coords) (a2 : Memref sig .tc .vmem S1024x2048 .bf16) (h2 : a2.IsWhole)
    (a3 : Memref sig .tc .vmem S1024x2048 .bf16) (h3 : a3.IsWhole) (a4 : Memref sig .tc .vmem S2048x512 .f32) (h4 : a4.IsWhole)
    (a5 : Memref sig .tc .vmem S2048x512 .f32) (h5 : a5.IsWhole) (a6 : Memref sig .tc .vmem S1024x512 .f32) (h6 : a6.IsWhole)
    (a7 : Memref sig .tc .vmem S1x1x512 .f32) (h7 : a7.IsWhole) (a8 : Memref sig .tc .vmem S1024x512 .f32) (h8 : a8.IsWhole)
    (a9 : Memref sig .tc .vmem S2048x512 .bf16) (h9 : a9.IsWhole) (a10 : Memref sig .tc .vmem S2048x512 .bf16) (h10 : a10.IsWhole) (hc : cond0_0 i)
    (o p : Vec F S1024x2048 .bf16) (wa wb : Vec F S2048x512 .f32) (x : Vec F S1024x512 .f32) (g : Vec F S1x1x512 .f32) :
    sout0_A_0 c i a2 h2 a3 h3 a4 h4 a5 h5 a6 h6 a7 h7 a8 h8 a9 h9 a10 h10 hc o p wa wb x g = k0_pay1 wa := by
  unfold sout0_A_0
  rw [View.read_writes_eq_canon _ _ _ (scover0_A_0 c i a2 h2 a3 h3 a4 h4 a5 h5 a6 h6 a7 h7 a8 h8 a9 h9 a10 h10 hc o p wa wb x g)]
  unfold kernelRun0_A
  dsimp only
  sl_unfold_words
  rw [View.canon_unit_zero origin]
  simp only [View.readAt_eq_ld, h2.read_unread, h3.read_unread, h4.read_unread, h5.read_unread,
    h6.read_unread, h7.read_unread, View.ld_unit_zero (S := S1024x2048) origin, View.ld_unit_zero (S := S2048x512) origin,
    View.ld_unit_zero (S := S1024x512) origin, View.ld_unit_zero (S := S1x1x512) origin3]

/-- And in the second: the pooling's weight tile, rounded. -/
theorem scratch_first' (c : Dev nD) (i : grid0.Coords) (a2 : Memref sig .tc .vmem S1024x2048 .bf16) (h2 : a2.IsWhole)
    (a3 : Memref sig .tc .vmem S1024x2048 .bf16) (h3 : a3.IsWhole) (a4 : Memref sig .tc .vmem S2048x512 .f32) (h4 : a4.IsWhole)
    (a5 : Memref sig .tc .vmem S2048x512 .f32) (h5 : a5.IsWhole) (a6 : Memref sig .tc .vmem S1024x512 .f32) (h6 : a6.IsWhole)
    (a7 : Memref sig .tc .vmem S1x1x512 .f32) (h7 : a7.IsWhole) (a8 : Memref sig .tc .vmem S1024x512 .f32) (h8 : a8.IsWhole)
    (a9 : Memref sig .tc .vmem S2048x512 .bf16) (h9 : a9.IsWhole) (a10 : Memref sig .tc .vmem S2048x512 .bf16) (h10 : a10.IsWhole) (hc : cond0_0 i)
    (o p : Vec F S1024x2048 .bf16) (wa wb : Vec F S2048x512 .f32) (x : Vec F S1024x512 .f32) (g : Vec F S1x1x512 .f32) :
    sout0_A_1 c i a2 h2 a3 h3 a4 h4 a5 h5 a6 h6 a7 h7 a8 h8 a9 h9 a10 h10 hc o p wa wb x g = k0_pay2 wb := by
  unfold sout0_A_1
  rw [View.read_writes_eq_canon _ _ _ (scover0_A_1 c i a2 h2 a3 h3 a4 h4 a5 h5 a6 h6 a7 h7 a8 h8 a9 h9 a10 h10 hc o p wa wb x g)]
  unfold kernelRun0_A
  dsimp only
  sl_unfold_words
  rw [View.canon_unit_zero origin]
  simp only [View.readAt_eq_ld, h2.read_unread, h3.read_unread, h4.read_unread, h5.read_unread,
    h6.read_unread, h7.read_unread, View.ld_unit_zero (S := S1024x2048) origin, View.ld_unit_zero (S := S2048x512) origin,
    View.ld_unit_zero (S := S1024x512) origin, View.ld_unit_zero (S := S1x1x512) origin3]

/-- What it leaves in the result's tile, with those rounded weight tiles. -/
theorem out_first (c : Dev nD) (i : grid0.Coords) (a2 : Memref sig .tc .vmem S1024x2048 .bf16) (h2 : a2.IsWhole)
    (a3 : Memref sig .tc .vmem S1024x2048 .bf16) (h3 : a3.IsWhole) (a4 : Memref sig .tc .vmem S2048x512 .f32) (h4 : a4.IsWhole)
    (a5 : Memref sig .tc .vmem S2048x512 .f32) (h5 : a5.IsWhole) (a6 : Memref sig .tc .vmem S1024x512 .f32) (h6 : a6.IsWhole)
    (a7 : Memref sig .tc .vmem S1x1x512 .f32) (h7 : a7.IsWhole) (a8 : Memref sig .tc .vmem S1024x512 .f32) (h8 : a8.IsWhole)
    (a9 : Memref sig .tc .vmem S2048x512 .bf16) (h9 : a9.IsWhole) (a10 : Memref sig .tc .vmem S2048x512 .bf16) (h10 : a10.IsWhole) (hc : cond0_0 i)
    (o p : Vec F S1024x2048 .bf16) (wa wb : Vec F S2048x512 .f32) (x : Vec F S1024x512 .f32) (g : Vec F S1x1x512 .f32) :
    out0_A_6 c i a2 h2 a3 h3 a4 h4 a5 h5 a6 h6 a7 h7 a8 h8 a9 h9 a10 h10 hc o p wa wb x g = k0_pay3 o (k0_pay1 wa) p (k0_pay2 wb) x g := by
  unfold out0_A_6
  rw [View.read_writes_eq_canon _ _ _ (cover0_A_6 c i a2 h2 a3 h3 a4 h4 a5 h5 a6 h6 a7 h7 a8 h8 a9 h9 a10 h10 hc o p wa wb x g)]
  unfold kernelRun0_A
  dsimp only
  sl_unfold_words
  rw [View.canon_unit_zero origin]
  rw [View.readCov_unit_zero (S := S2048x512) _ origin, View.readCov_unit_zero (S := S2048x512) _ origin]
  simp only [View.readAt_eq_ld, h2.read_unread, h3.read_unread, h4.read_unread, h5.read_unread,
    h6.read_unread, h7.read_unread, View.ld_unit_zero (S := S1024x2048) origin, View.ld_unit_zero (S := S2048x512) origin,
    View.ld_unit_zero (S := S1024x512) origin, View.ld_unit_zero (S := S1x1x512) origin3]

/-- At every other point: the same with what the scratches hold. -/
theorem out_later (c : Dev nD) (i : grid0.Coords) (a2 : Memref sig .tc .vmem S1024x2048 .bf16) (h2 : a2.IsWhole)
    (a3 : Memref sig .tc .vmem S1024x2048 .bf16) (h3 : a3.IsWhole) (a4 : Memref sig .tc .vmem S2048x512 .f32) (h4 : a4.IsWhole)
    (a5 : Memref sig .tc .vmem S2048x512 .f32) (h5 : a5.IsWhole) (a6 : Memref sig .tc .vmem S1024x512 .f32) (h6 : a6.IsWhole)
    (a7 : Memref sig .tc .vmem S1x1x512 .f32) (h7 : a7.IsWhole) (a8 : Memref sig .tc .vmem S1024x512 .f32) (h8 : a8.IsWhole)
    (a9 : Memref sig .tc .vmem S2048x512 .bf16) (h9 : a9.IsWhole) (a10 : Memref sig .tc .vmem S2048x512 .bf16) (h10 : a10.IsWhole) (hc : ¬cond0_0 i)
    (o p : Vec F S1024x2048 .bf16) (wa wb : Vec F S2048x512 .f32) (x : Vec F S1024x512 .f32) (g : Vec F S1x1x512 .f32)
    (sa sb : Vec F S2048x512 .bf16) :
    out0_B_6 c i a2 h2 a3 h3 a4 h4 a5 h5 a6 h6 a7 h7 a8 h8 a9 h9 a10 h10 hc o p wa wb x g sa sb = k0_pay3 o sa p sb x g := by
  unfold out0_B_6
  rw [View.read_writes_eq_canon _ _ _ (cover0_B_6 c i a2 h2 a3 h3 a4 h4 a5 h5 a6 h6 a7 h7 a8 h8 a9 h9 a10 h10 hc o p wa wb x g sa sb)]
  unfold kernelRun0_B
  dsimp only
  sl_unfold_words
  rw [View.canon_unit_zero origin]
  simp only [View.readAt_eq_ld, h9.read_unread, h10.read_unread, h2.read_unread, h3.read_unread, h4.read_unread, h5.read_unread,
    h6.read_unread, h7.read_unread, View.ld_unit_zero (S := S1024x2048) origin, View.ld_unit_zero (S := S2048x512) origin,
    View.ld_unit_zero (S := S1024x512) origin, View.ld_unit_zero (S := S1x1x512) origin3]

/-- The tiles' places: point `t` is row tile `t % 8` and column tile `t / 8`; two row tiles to a sample. -/
theorem places : ∀ t : Fin cfg0.N,
    (win0_0.index t (0 : Fin 2) = t.val % 8 ∧ win0_0.index t (1 : Fin 2) = 0)
    ∧ (win0_1.index t (0 : Fin 2) = t.val % 8 ∧ win0_1.index t (1 : Fin 2) = 0)
    ∧ (win0_2.index t (0 : Fin 2) = 0 ∧ win0_2.index t (1 : Fin 2) = t.val / 8)
    ∧ (win0_3.index t (0 : Fin 2) = 1 ∧ win0_3.index t (1 : Fin 2) = t.val / 8)
    ∧ (win0_4.index t (0 : Fin 2) = t.val % 8 ∧ win0_4.index t (1 : Fin 2) = t.val / 8)
    ∧ (win0_5.index t (0 : Fin 3) = t.val % 8 / 2 ∧ win0_5.index t (1 : Fin 3) = 0 ∧ win0_5.index t (2 : Fin 3) = t.val / 8)
    ∧ (win0_6.index t (0 : Fin 2) = t.val % 8 ∧ win0_6.index t (1 : Fin 2) = t.val / 8) :=
  (by decide +kernel : ∀ t : Fin grid0.N, _)

/-- The recurrence's rows point `t` reads. -/
def mixed (c : Dev nD) (t : Fin cfg0.N) : Vec F S1024x2048 .bf16 := iblk m c 0 t

/-- Its entry. -/
theorem mixed_at (c : Dev nD) (t : Fin cfg0.N) (y : S1024x2048.Idx) (i : S8192x2048.Idx)
    (h0 : (i 0).val = 1024 * (t.val % 8) + (y 0).val) (h1 : (i 1).val = (y 1).val) :
    mixed m c t y = (m ((c : Thread nD τ).loc main_arg0) : Vec F S8192x2048 .bf16) i := by
  obtain ⟨⟨e0, e1⟩, -⟩ := places t
  unfold mixed iblk
  rw [View.read_apply]
  show V m c main_arg0 _ = m (c.tc.loc main_arg0) _
  rw [V_main_arg0]
  congr 1
  funext a
  apply Fin.ext
  match a with
  | ⟨0, _⟩ => show win0_0.index t 0 * 1024 + 1 * (y 0).val = _; rw [e0]; exact Eq.trans (by omega) h0.symm
  | ⟨1, _⟩ => show win0_0.index t 1 * 2048 + 1 * (y 1).val = _; rw [e1]; exact Eq.trans (by omega) h1.symm

/-- The pooling's rows point `t` reads. -/
def pooled (c : Dev nD) (t : Fin cfg0.N) : Vec F S1024x2048 .bf16 := iblk m c 1 t

/-- Its entry. -/
theorem pooled_at (c : Dev nD) (t : Fin cfg0.N) (y : S1024x2048.Idx) (i : S8192x2048.Idx)
    (h0 : (i 0).val = 1024 * (t.val % 8) + (y 0).val) (h1 : (i 1).val = (y 1).val) :
    pooled m c t y = (m ((c : Thread nD τ).loc main_arg1) : Vec F S8192x2048 .bf16) i := by
  obtain ⟨-, ⟨e0, e1⟩, -⟩ := places t
  unfold pooled iblk
  rw [View.read_apply]
  show V m c main_arg1 _ = m (c.tc.loc main_arg1) _
  rw [V_main_arg1]
  congr 1
  funext a
  apply Fin.ext
  match a with
  | ⟨0, _⟩ => show win0_1.index t 0 * 1024 + 1 * (y 0).val = _; rw [e0]; exact Eq.trans (by omega) h0.symm
  | ⟨1, _⟩ => show win0_1.index t 1 * 2048 + 1 * (y 1).val = _; rw [e1]; exact Eq.trans (by omega) h1.symm

/-- The upper weight tile point `t` reads. -/
def upper (c : Dev nD) (t : Fin cfg0.N) : Vec F S2048x512 .f32 := iblk m c 2 t

/-- Its entry. -/
theorem upper_at (c : Dev nD) (t : Fin cfg0.N) (y : S2048x512.Idx) (i : S4096x4096.Idx)
    (h0 : (i 0).val = (y 0).val) (h1 : (i 1).val = 512 * (t.val / 8) + (y 1).val) :
    upper m c t y = (m ((c : Thread nD τ).loc main_arg2) : Vec F S4096x4096 .f32) i := by
  obtain ⟨-, -, ⟨e0, e1⟩, -⟩ := places t
  unfold upper iblk
  rw [View.read_apply]
  show V m c main_arg2 _ = m (c.tc.loc main_arg2) _
  rw [V_main_arg2]
  congr 1
  funext a
  apply Fin.ext
  match a with
  | ⟨0, _⟩ => show win0_2.index t 0 * 2048 + 1 * (y 0).val = _; rw [e0]; exact Eq.trans (by omega) h0.symm
  | ⟨1, _⟩ => show win0_2.index t 1 * 512 + 1 * (y 1).val = _; rw [e1]; exact Eq.trans (by omega) h1.symm

/-- The lower weight tile point `t` reads. -/
def lower (c : Dev nD) (t : Fin cfg0.N) : Vec F S2048x512 .f32 := iblk m c 3 t

/-- Its entry. -/
theorem lower_at (c : Dev nD) (t : Fin cfg0.N) (y : S2048x512.Idx) (i : S4096x4096.Idx)
    (h0 : (i 0).val = 2048 + (y 0).val) (h1 : (i 1).val = 512 * (t.val / 8) + (y 1).val) :
    lower m c t y = (m ((c : Thread nD τ).loc main_arg2) : Vec F S4096x4096 .f32) i := by
  obtain ⟨-, -, -, ⟨e0, e1⟩, -⟩ := places t
  unfold lower iblk
  rw [View.read_apply]
  show V m c main_arg2 _ = m (c.tc.loc main_arg2) _
  rw [V_main_arg2]
  congr 1
  funext a
  apply Fin.ext
  match a with
  | ⟨0, _⟩ => show win0_3.index t 0 * 2048 + 1 * (y 0).val = _; rw [e0]; exact Eq.trans (by omega) h0.symm
  | ⟨1, _⟩ => show win0_3.index t 1 * 512 + 1 * (y 1).val = _; rw [e1]; exact Eq.trans (by omega) h1.symm

/-- The residual's tile point `t` reads. -/
def residual (c : Dev nD) (t : Fin cfg0.N) : Vec F S1024x512 .f32 := iblk m c 4 t

/-- Its entry. -/
theorem residual_at (c : Dev nD) (t : Fin cfg0.N) (y : S1024x512.Idx) (i : S8192x4096.Idx)
    (h0 : (i 0).val = 1024 * (t.val % 8) + (y 0).val) (h1 : (i 1).val = 512 * (t.val / 8) + (y 1).val) :
    residual m c t y = (m ((c : Thread nD τ).loc main_arg3) : Vec F S8192x4096 .f32) i := by
  obtain ⟨-, -, -, -, ⟨e0, e1⟩, -⟩ := places t
  unfold residual iblk
  rw [View.read_apply]
  show V m c main_arg3 _ = m (c.tc.loc main_arg3) _
  rw [V_main_arg3]
  congr 1
  funext a
  apply Fin.ext
  match a with
  | ⟨0, _⟩ => show win0_4.index t 0 * 1024 + 1 * (y 0).val = _; rw [e0]; exact Eq.trans (by omega) h0.symm
  | ⟨1, _⟩ => show win0_4.index t 1 * 512 + 1 * (y 1).val = _; rw [e1]; exact Eq.trans (by omega) h1.symm

/-- The sample's gate point `t` reads. -/
def gate (c : Dev nD) (t : Fin cfg0.N) : Vec F S1x1x512 .f32 := iblk m c 5 t

/-- Its entry. -/
theorem gate_at (c : Dev nD) (t : Fin cfg0.N) (y : S1x1x512.Idx) (i : S4x1x4096.Idx)
    (h0 : (i 0).val = t.val % 8 / 2) (h2 : (i 2).val = 512 * (t.val / 8) + (y 2).val) :
    gate m c t y = (m ((c : Thread nD τ).loc main_arg4) : Vec F S4x1x4096 .f32) i := by
  obtain ⟨-, -, -, -, -, ⟨e0, e1, e2⟩, -⟩ := places t
  have hy0 : (y 0).val < 1 := (y 0).isLt
  have hy1 : (y 1).val < 1 := (y 1).isLt
  have hi1 : (i 1).val < 1 := (i 1).isLt
  unfold gate iblk
  rw [View.read_apply]
  show V m c main_arg4 _ = m (c.tc.loc main_arg4) _
  rw [V_main_arg4]
  congr 1
  funext a
  apply Fin.ext
  match a with
  | ⟨0, _⟩ => show win0_5.index t 0 * 1 + 1 * (y 0).val = _; rw [e0]; exact Eq.trans (by omega) h0.symm
  | ⟨1, _⟩ => show win0_5.index t 1 * 1 + 1 * (y 1).val = (i 1).val; rw [e1]; omega
  | ⟨2, _⟩ => show win0_5.index t 2 * 512 + 1 * (y 2).val = _; rw [e2]; exact Eq.trans (by omega) h2.symm

/-- Points of one column of tiles read one upper weight tile. -/
theorem upper_same (c : Dev nD) (t t' : Fin cfg0.N) (h : t.val / 8 = t'.val / 8) : upper m c t = upper m c t' := by
  have hN : cfg0.N = 64 := N_0
  have ht := t.isLt
  funext y
  have hy0 : (y 0).val < 2048 := (y 0).isLt
  have hy1 : (y 1).val < 512 := (y 1).isLt
  have h0 : (y 0).val < 4096 := by omega
  have h1 : 512 * (t.val / 8) + (y 1).val < 4096 := by omega
  rw [upper_at m c t y (ix2 ⟨_, h0⟩ ⟨_, h1⟩) rfl rfl, upper_at m c t' y (ix2 ⟨_, h0⟩ ⟨_, h1⟩) rfl (by rw [← h]; rfl)]

/-- Points of one column of tiles read one lower weight tile. -/
theorem lower_same (c : Dev nD) (t t' : Fin cfg0.N) (h : t.val / 8 = t'.val / 8) : lower m c t = lower m c t' := by
  have hN : cfg0.N = 64 := N_0
  have ht := t.isLt
  funext y
  have hy0 : (y 0).val < 2048 := (y 0).isLt
  have hy1 : (y 1).val < 512 := (y 1).isLt
  have h0 : 2048 + (y 0).val < 4096 := by omega
  have h1 : 512 * (t.val / 8) + (y 1).val < 4096 := by omega
  rw [lower_at m c t y (ix2 ⟨_, h0⟩ ⟨_, h1⟩) rfl rfl, lower_at m c t' y (ix2 ⟨_, h0⟩ ⟨_, h1⟩) rfl (by rw [← h]; rfl)]

/-- After a point of the first row of tiles the scratch holds that point's upper weight tile, rounded. -/
theorem scratch_A (c : Dev nD) (t : Fin cfg0.N) (h0 : t.val % 8 = 0) : (outsAt0 m c t.val t.isLt).2.1 = k0_pay1 (upper m c t) := by
  rw [outsAt0_A m c t h0]
  dsimp only
  rw [scratch_first]
  rfl

/-- At every other point the scratch is kept. -/
theorem scratch_B (c : Dev nD) (t : Fin cfg0.N) (h0 : ¬t.val % 8 = 0) : (outsAt0 m c t.val t.isLt).2.1
    = (outsAt0 m c (t.val - 1) (Nat.lt_of_le_of_lt (Nat.sub_le _ _) t.isLt)).2.1 := by
  rw [outsAt0_B m c t h0]
  dsimp only
  unfold sout0_B_0
  rfl

/-- After every point the scratch holds that point's upper weight tile, rounded. -/
theorem scratch_eq (c : Dev nD) (n : ℕ) : ∀ h : n < cfg0.N, (outsAt0 m c n h).2.1 = k0_pay1 (upper m c ⟨n, h⟩) := by
  induction n with
  | zero => exact fun h => scratch_A m c ⟨0, h⟩ (Nat.zero_mod _)
  | succ n ih =>
    intro h
    by_cases h0 : (n + 1) % 8 = 0
    · exact scratch_A m c ⟨n + 1, h⟩ h0
    · have hn : n < cfg0.N := Nat.lt_of_succ_lt h
      have e : upper m c ⟨n, hn⟩ = upper m c ⟨n + 1, h⟩ := upper_same m c _ _ (by show n / 8 = (n + 1) / 8; omega)
      exact (scratch_B m c ⟨n + 1, h⟩ h0).trans ((ih hn).trans (congrArg k0_pay1 e))

/-- After a point of the first row of tiles the scratch holds that point's lower weight tile, rounded. -/
theorem scratch2_A (c : Dev nD) (t : Fin cfg0.N) (h0 : t.val % 8 = 0) : (outsAt0 m c t.val t.isLt).2.2 = k0_pay2 (lower m c t) := by
  rw [outsAt0_A m c t h0]
  dsimp only
  rw [scratch_first']
  rfl

/-- At every other point the scratch is kept. -/
theorem scratch2_B (c : Dev nD) (t : Fin cfg0.N) (h0 : ¬t.val % 8 = 0) : (outsAt0 m c t.val t.isLt).2.2
    = (outsAt0 m c (t.val - 1) (Nat.lt_of_le_of_lt (Nat.sub_le _ _) t.isLt)).2.2 := by
  rw [outsAt0_B m c t h0]
  dsimp only
  unfold sout0_B_1
  rfl

/-- After every point the scratch holds that point's lower weight tile, rounded. -/
theorem scratch2_eq (c : Dev nD) (n : ℕ) : ∀ h : n < cfg0.N, (outsAt0 m c n h).2.2 = k0_pay2 (lower m c ⟨n, h⟩) := by
  induction n with
  | zero => exact fun h => scratch2_A m c ⟨0, h⟩ (Nat.zero_mod _)
  | succ n ih =>
    intro h
    by_cases h0 : (n + 1) % 8 = 0
    · exact scratch2_A m c ⟨n + 1, h⟩ h0
    · have hn : n < cfg0.N := Nat.lt_of_succ_lt h
      have e : lower m c ⟨n, hn⟩ = lower m c ⟨n + 1, h⟩ := lower_same m c _ _ (by show n / 8 = (n + 1) / 8; omega)
      exact (scratch2_B m c ⟨n + 1, h⟩ h0).trans ((ih hn).trans (congrArg k0_pay2 e))

/-- So every point leaves the payload of its own tiles. -/
theorem tile_eq (c : Dev nD) (t : Fin cfg0.N) : (outsAt0 m c t.val t.isLt).1
    = k0_pay3 (mixed m c t) (k0_pay1 (upper m c t)) (pooled m c t) (k0_pay2 (lower m c t)) (residual m c t) (gate m c t) := by
  by_cases h0 : t.val % 8 = 0
  · rw [outsAt0_A m c t h0]
    dsimp only
    rw [out_first]
    rfl
  · have hp : t.val - 1 < cfg0.N := Nat.lt_of_le_of_lt (Nat.sub_le _ _) t.isLt
    have e : upper m c ⟨t.val - 1, hp⟩ = upper m c t := upper_same m c _ _ (by show (t.val - 1) / 8 = t.val / 8; omega)
    have e' : lower m c ⟨t.val - 1, hp⟩ = lower m c t := lower_same m c _ _ (by show (t.val - 1) / 8 = t.val / 8; omega)
    rw [outsAt0_B m c t h0]
    dsimp only
    rw [out_later, scratch_eq m c (t.val - 1) hp, scratch2_eq m c (t.val - 1) hp, e, e']
    rfl

/-- The weight's row for a recurrence's feature. -/
def first (k : Fin 2048) : Fin 4096 := ⟨k.val, by omega⟩

/-- The weight's row for a pooling's feature. -/
def second (k : Fin 2048) : Fin 4096 := ⟨2048 + k.val, by omega⟩

/-- A row's sample. -/
def sample (i : Fin 8192) : Fin 4 := ⟨i.val / 2048, by omega⟩

/-- Every entry: the residual, plus the sample's gate times the sum over both mixers' features. -/
def product (o p : FVec Ideal S8192x2048 .bf16) (w : FVec Ideal S4096x4096 .f32) (x : FVec Ideal S8192x4096 .f32)
    (g : FVec Ideal S4x1x4096 .f32) : FVec Ideal S8192x4096 .f32 := fun i =>
  x i + g (ix3 (sample (i 0)) (0 : Fin 1) (i 1)) * (∑ k : Fin 2048, o (ix2 (i 0) k) * w (ix2 (first k) (i 1))
    + ∑ k : Fin 2048, p (ix2 (i 0) k) * w (ix2 (second k) (i 1)))

/-- A point's payload, entry by entry. -/
theorem payload_at (o p : FVec Ideal S1024x2048 .bf16) (wa wb : FVec Ideal S2048x512 .f32) (x : FVec Ideal S1024x512 .f32)
    (g : FVec Ideal S1x1x512 .f32) (y : S1024x512.Idx) : k0_pay3 o (k0_pay1 wa) p (k0_pay2 wb) x g y
      = x y + g (ix3 (0 : Fin 1) (0 : Fin 1) (y 1)) * (∑ k : Fin 2048, o (ix2 (y 0) k) * wa (ix2 k (y 1))
        + ∑ k : Fin 2048, p (ix2 (y 0) k) * wb (ix2 k (y 1))) := by
  pointwise [k0_pay3, k0_pay1, k0_pay2]

/-- The same of the kernel's arguments. -/
def result (m : (ℓ : Loc nD τ sig) → Buf (Elt Ideal) ℓ) (c : Dev nD) : FVec Ideal S8192x4096 .f32 :=
  product (m ((c : Thread nD τ).loc main_arg0)) (m ((c : Thread nD τ).loc main_arg1)) (m ((c : Thread nD τ).loc main_arg2))
    (m ((c : Thread nD τ).loc main_arg3)) (m ((c : Thread nD τ).loc main_arg4))

/-- What a point computes, placed in the result. -/
theorem tile_at (m : (ℓ : Loc nD τ sig) → Buf (Elt Ideal) ℓ) (c : Dev nD) (t : Fin cfg0.N) (y : S1024x512.Idx) (i : S8192x4096.Idx)
    (h0 : (i 0).val = 1024 * (t.val % 8) + (y 0).val) (h1 : (i 1).val = 512 * (t.val / 8) + (y 1).val) :
    k0_pay3 (mixed m c t) (k0_pay1 (upper m c t)) (pooled m c t) (k0_pay2 (lower m c t)) (residual m c t) (gate m c t) y = result m c i := by
  have hy0 : (y 0).val < 1024 := (y 0).isLt
  rw [payload_at]
  unfold result product
  rw [residual_at m c t y i h0 h1, gate_at m c t (ix3 (0 : Fin 1) (0 : Fin 1) (y 1)) (ix3 (sample (i 0)) (0 : Fin 1) (i 1))
    (by show (i 0).val / 2048 = t.val % 8 / 2; omega) h1]
  congr 2
  congr 1
  · refine Finset.sum_congr rfl fun k _ => ?_
    rw [mixed_at m c t (ix2 (y 0) k) (ix2 (i 0) k) h0 rfl, upper_at m c t (ix2 k (y 1)) (ix2 (first k) (i 1)) rfl h1]
  · refine Finset.sum_congr rfl fun k _ => ?_
    rw [pooled_at m c t (ix2 (y 0) k) (ix2 (i 0) k) h0 rfl, lower_at m c t (ix2 k (y 1)) (ix2 (second k) (i 1)) rfl h1]

/-- What a point writes back is its block of the result. -/
theorem flushed_eq (m : (ℓ : Loc nD τ sig) → Buf (Elt Ideal) ℓ) (c : Dev nD) (t : Fin cfg0.N) :
    (dats m 0 c).flushed 6 t = ((cfg0.win 6).blk t).view.read (Elt Ideal) (result m c) := by
  obtain ⟨-, -, -, -, -, -, e0, e1⟩ := places t
  rw [flushed6, tile_eq]
  funext y
  rw [View.read_apply]
  exact tile_at m c t y (((cfg0.win 6).blk t).view.emb y)
    (by show win0_6.index t 0 * 1024 + 1 * (y 0).val = _; rw [e0]; omega)
    (by show win0_6.index t 1 * 512 + 1 * (y 1).val = _; rw [e1]; omega)

/-- The result array after the run. -/
theorem final (m : (ℓ : Loc nD τ sig) → Buf (Elt Ideal) ℓ) (c : Dev nD) : (dats m 0 c).arrAt 6 cfg0.N = result m c :=
  (dats m 0 c).arrAt_eq_of_cover 6 _ (fun t _ => flushed_eq m c t) (fun i => (covered_iff6 i).2 (by
    have h0 : (i 0).val < 8192 := (i 0).isLt; have h1 : (i 1).val < 4096 := (i 1).isLt; omega))

/-- The reference's composed term, entry by entry, is the same. -/
theorem reference_eq (o p : FVec Ideal Reference4Ideal.S8192x2048 .bf16) (w : FVec Ideal Reference4Ideal.S4096x4096 .f32)
    (x : FVec Ideal Reference4Ideal.S8192x4096 .f32) (g : FVec Ideal Reference4Ideal.S4x1x4096 .f32) (i : S8192x4096.Idx) :
    shapeCast Reference4Ideal.S8192x4096
      (addf (F := Ideal) (shapeCast Reference4Ideal.S4x2048x4096 x Reference4Ideal.Facts₀.shapeCasts_S8192x4096_S4x2048x4096)
        (mulf (broadcastInDim Reference4Ideal.S4x2048x4096 ![0, 1, 2] Reference4Ideal.Facts₀.bcast_S4x1x4096_S4x2048x4096_0_1_2 g)
          (shapeCast Reference4Ideal.S4x2048x4096
            (Host.dotGeneral Reference4Ideal.dot_S8192x4096_S4096x4096_S8192x4096_1_0_0_1_n_n none
              (extf .f32 (concatenate Reference4Ideal.S8192x4096 1 [⟨Reference4Ideal.S8192x2048, o⟩, ⟨Reference4Ideal.S8192x2048, p⟩]
                Reference4Ideal.Facts₀.concatenates_S8192x2048_S8192x2048_S8192x4096_d1) Reference4Ideal.Facts₀.bitsLt_bf16_f32) w)
            Reference4Ideal.Facts₀.shapeCasts_S8192x4096_S4x2048x4096)))
      Reference4Ideal.Facts₀.shapeCasts_S4x2048x4096_S8192x4096 i
    = product o p w x g i := by
  unfold product first second sample
  pointwise

/-- The claim. -/
theorem claim : Cert.algebraic_Kernel4Ideal_Reference4Ideal := by
  intro m g m' g' _ hargs
  refine ⟨result m, ?_, ?_⟩
  · exact (θ_run Cert.Kernel4Ideal.defs _ _).mono (fun r h c => ⟨(h c).1.trans (final m c), (h c).2⟩) (run_blocks m g)
  · refine (θ_run Cert.Reference4Ideal.defs _ _).mono (fun r h c => ⟨(h c).1.trans ?_, (h c).2⟩) (Cert.Reference4Ideal.Value.run m' g')
    rw [(hargs c).1, (hargs c).2.1, (hargs c).2.2.1, (hargs c).2.2.2.1, (hargs c).2.2.2.2]
    funext i
    exact reference_eq (m (c.tc.loc main_arg0)) (m (c.tc.loc main_arg1)) (m (c.tc.loc main_arg2)) (m (c.tc.loc main_arg3))
      (m (c.tc.loc main_arg4)) i

/-- The reference's frame. -/
theorem frame_reference : Cert.quiescent_Reference4Ideal := by
  intro m g _
  exact (θ_run Cert.Reference4Ideal.defs _ _).mono (fun r h => ⟨fun c => (h c).2, sem_eq_zero_of_no_sems (by decide) _⟩)
    (Cert.Reference4Ideal.Value.run m g)

end Cert.Proof.Out

end
-- ==== Proof.Down.Value.lean ====
/- The experts' down projection: every entry of the result is the sum, over an expert's width, of a hidden entry times
   a weight's, all of it times the slot's gate. -/
module

public import proofs.«01_k».proof.Defs
public import proofs.«01_k».proof.Proof.Gen.Kernel5Ideal.Value
public import proofs.«01_k».proof.Proof.Gen.Reference5Ideal.Run
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.Down

open Cert.Kernel5Ideal Cert.Kernel5Ideal.Gen Cert.Kernel5Ideal.Value

variable {F : FTy → Type} [FloatOps F]
variable (m : (ℓ : Loc nD τ sig) → Buf (Elt F) ℓ)

theorem origin : (![0, 0, 0] : Fin 3 → Nat) = fun _ => 0 := funext fun a => by fin_cases a <;> rfl

/-- What a point leaves in the result's tile is its payload of the tiles it reads. -/
theorem tile_eq (x : Vec F S1x1024x2048 .bf16) (w : Vec F S1x2048x1024 .f32) (g : Vec F S1x1024x1 .f32) :
    out0_3 x w g = k0_pay1 x w g := by
  unfold out0_3 r0_3
  rw [View.canon_unit_zero origin]
  rw [show View.ld x r0_0 = x from View.ld_unit_zero (S := S1x1024x2048) origin _ x,
    show View.ld w r0_1 = w from View.ld_unit_zero (S := S1x2048x1024) origin _ w,
    show View.ld g r0_2 = g from View.ld_unit_zero (S := S1x1024x1) origin _ g]

/-- The tiles' places: point `t` is expert `t / 4` and column tile `t % 4`. -/
theorem places : ∀ t : Fin cfg0.N,
    (win0_0.index t (0 : Fin 3) = t.val / 4 ∧ win0_0.index t (1 : Fin 3) = 0 ∧ win0_0.index t (2 : Fin 3) = 0)
    ∧ (win0_1.index t (0 : Fin 3) = t.val / 4 ∧ win0_1.index t (1 : Fin 3) = 0 ∧ win0_1.index t (2 : Fin 3) = t.val % 4)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = 0 ∧ win0_3.index t (2 : Fin 3) = t.val % 4)
    ∧ (cfg0.win 3).flush t = true :=
  (by decide +kernel : ∀ t : Fin grid0.N, _)

/-- The hidden rows point `t` reads. -/
def rows (c : Dev nD) (t : Fin cfg0.N) : Vec F S1x1024x2048 .bf16 := iblk m c 0 t

/-- The weight tile point `t` reads. -/
def weights (c : Dev nD) (t : Fin cfg0.N) : Vec F S1x2048x1024 .f32 := iblk m c 1 t

/-- The gates point `t` reads. -/
def gates (c : Dev nD) (t : Fin cfg0.N) : Vec F S1x1024x1 .f32 := iblk m c 2 t

/-- A hidden row's entry. -/
theorem rows_at (c : Dev nD) (t : Fin cfg0.N) (y : S1x1024x2048.Idx) (i : S16x1024x2048.Idx)
    (h0 : (i 0).val = t.val / 4) (h1 : (i 1).val = (y 1).val) (h2 : (i 2).val = (y 2).val) :
    rows m c t y = (m ((c : Thread nD τ).loc main_arg0) : Vec F S16x1024x2048 .bf16) i := by
  obtain ⟨⟨e0, e1, e2⟩, -⟩ := places t
  have hy : (y 0).val < 1 := (y 0).isLt
  unfold rows iblk
  rw [View.read_apply]
  show V m c main_arg0 _ = m (c.tc.loc main_arg0) _
  rw [V_main_arg0]
  congr 1
  funext a
  apply Fin.ext
  match a with
  | ⟨0, _⟩ => show win0_0.index t 0 * 1 + 1 * (y 0).val = _; rw [e0]; exact Eq.trans (by omega) h0.symm
  | ⟨1, _⟩ => show win0_0.index t 1 * 1024 + 1 * (y 1).val = _; rw [e1]; exact Eq.trans (by omega) h1.symm
  | ⟨2, _⟩ => show win0_0.index t 2 * 2048 + 1 * (y 2).val = _; rw [e2]; exact Eq.trans (by omega) h2.symm

/-- A weight tile's entry. -/
theorem weights_at (c : Dev nD) (t : Fin cfg0.N) (y : S1x2048x1024.Idx) (i : S16x2048x4096.Idx)
    (h0 : (i 0).val = t.val / 4) (h1 : (i 1).val = (y 1).val) (h2 : (i 2).val = 1024 * (t.val % 4) + (y 2).val) :
    weights m c t y = (m ((c : Thread nD τ).loc main_arg1) : Vec F S16x2048x4096 .f32) i := by
  obtain ⟨-, ⟨e0, e1, e2⟩, -⟩ := places t
  have hy : (y 0).val < 1 := (y 0).isLt
  unfold weights iblk
  rw [View.read_apply]
  show V m c main_arg1 _ = m (c.tc.loc main_arg1) _
  rw [V_main_arg1]
  congr 1
  funext a
  apply Fin.ext
  match a with
  | ⟨0, _⟩ => show win0_1.index t 0 * 1 + 1 * (y 0).val = _; rw [e0]; exact Eq.trans (by omega) h0.symm
  | ⟨1, _⟩ => show win0_1.index t 1 * 2048 + 1 * (y 1).val = _; rw [e1]; exact Eq.trans (by omega) h1.symm
  | ⟨2, _⟩ => show win0_1.index t 2 * 1024 + 1 * (y 2).val = _; rw [e2]; exact Eq.trans (by omega) h2.symm

/-- A gate. -/
theorem gates_at (c : Dev nD) (t : Fin cfg0.N) (y : S1x1024x1.Idx) (i : S16x1024x1.Idx)
    (h0 : (i 0).val = t.val / 4) (h1 : (i 1).val = (y 1).val) :
    gates m c t y = (m ((c : Thread nD τ).loc main_arg2) : Vec F S16x1024x1 .f32) i := by
  obtain ⟨-, -, ⟨e0, e1, e2⟩, -⟩ := places t
  have hy : (y 0).val < 1 := (y 0).isLt
  have hy2 : (y 2).val < 1 := (y 2).isLt
  have hi2 : (i 2).val < 1 := (i 2).isLt
  unfold gates iblk
  rw [View.read_apply]
  show V m c main_arg2 _ = m (c.tc.loc main_arg2) _
  rw [V_main_arg2]
  congr 1
  funext a
  apply Fin.ext
  match a with
  | ⟨0, _⟩ => show win0_2.index t 0 * 1 + 1 * (y 0).val = _; rw [e0]; exact Eq.trans (by omega) h0.symm
  | ⟨1, _⟩ => show win0_2.index t 1 * 1024 + 1 * (y 1).val = _; rw [e1]; exact Eq.trans (by omega) h1.symm
  | ⟨2, _⟩ => show win0_2.index t 2 * 1 + 1 * (y 2).val = (i 2).val; rw [e2]; omega

/-- Every entry: the sum over the expert's width, times the slot's gate. -/
def product (x : FVec Ideal S16x1024x2048 .bf16) (w : FVec Ideal S16x2048x4096 .f32) (g : FVec Ideal S16x1024x1 .f32) :
    FVec Ideal S16x1024x4096 .bf16 := fun i =>
  (∑ k : Fin 2048, x (ix3 (i 0) (i 1) k) * w (ix3 (i 0) k (i 2))) * g (ix3 (i 0) (i 1) (0 : Fin 1))

/-- A point's payload, entry by entry. -/
theorem payload_at (x : FVec Ideal S1x1024x2048 .bf16) (w : FVec Ideal S1x2048x1024 .f32) (g : FVec Ideal S1x1024x1 .f32)
    (y : S1x1024x1024.Idx) : k0_pay1 x w g y
      = (∑ k : Fin 2048, x (ix3 (0 : Fin 1) (y 1) k) * w (ix3 (0 : Fin 1) k (y 2))) * g (ix3 (0 : Fin 1) (y 1) (0 : Fin 1)) := by
  pointwise [k0_pay1]

/-- The product of the kernel's arguments. -/
def result (m : (ℓ : Loc nD τ sig) → Buf (Elt Ideal) ℓ) (c : Dev nD) : FVec Ideal S16x1024x4096 .bf16 :=
  product (m ((c : Thread nD τ).loc main_arg0)) (m ((c : Thread nD τ).loc main_arg1)) (m ((c : Thread nD τ).loc main_arg2))

/-- What a point computes, placed in the result. -/
theorem tile_at (m : (ℓ : Loc nD τ sig) → Buf (Elt Ideal) ℓ) (c : Dev nD) (t : Fin cfg0.N) (y : S1x1024x1024.Idx)
    (i : S16x1024x4096.Idx) (h0 : (i 0).val = t.val / 4) (h1 : (i 1).val = (y 1).val)
    (h2 : (i 2).val = 1024 * (t.val % 4) + (y 2).val) :
    k0_pay1 (rows m c t) (weights m c t) (gates m c t) y = result m c i := by
  rw [payload_at]
  unfold result product
  rw [gates_at m c t (ix3 (0 : Fin 1) (y 1) (0 : Fin 1)) (ix3 (i 0) (i 1) (0 : Fin 1)) h0 h1]
  congr 1
  refine Finset.sum_congr rfl fun k _ => ?_
  rw [rows_at m c t (ix3 (0 : Fin 1) (y 1) k) (ix3 (i 0) (i 1) k) h0 h1 rfl,
    weights_at m c t (ix3 (0 : Fin 1) k (y 2)) (ix3 (i 0) k (i 2)) h0 rfl h2]

/-- What a point writes back is its block of the result. -/
theorem flushed_eq (m : (ℓ : Loc nD τ sig) → Buf (Elt Ideal) ℓ) (c : Dev nD) (t : Fin cfg0.N) :
    (dats m 0 c).flushed 3 t = ((cfg0.win 3).blk t).view.read (Elt Ideal) (result m c) := by
  obtain ⟨-, -, -, ⟨e0, e1, e2⟩, -⟩ := places t
  rw [flushed3, tile_eq]
  funext y
  have hy : (y 0).val < 1 := (y 0).isLt
  rw [View.read_apply]
  exact tile_at m c t y (((cfg0.win 3).blk t).view.emb y)
    (by show win0_3.index t 0 * 1 + 1 * (y 0).val = _; rw [e0]; omega)
    (by show win0_3.index t 1 * 1024 + 1 * (y 1).val = _; rw [e1]; omega)
    (by show win0_3.index t 2 * 1024 + 1 * (y 2).val = _; rw [e2]; omega)

/-- Every entry lies in some point's block. -/
theorem covered (i : S16x1024x4096.Idx) :
    ∃ t : Fin cfg0.N, (cfg0.win 3).flush t = true ∧ i ∈ ((cfg0.win 3).blk t).view.set := by
  have hN : cfg0.N = 64 := N_0
  have h0 : (i 0).val < 16 := (i 0).isLt
  have h1 : (i 1).val < 1024 := (i 1).isLt
  have h2 : (i 2).val < 4096 := (i 2).isLt
  have ht : 4 * (i 0).val + (i 2).val / 1024 < cfg0.N := by omega
  obtain ⟨t, et⟩ : ∃ t : Fin cfg0.N, t.val = 4 * (i 0).val + (i 2).val / 1024 := ⟨⟨_, ht⟩, rfl⟩
  obtain ⟨-, -, -, ⟨e0, e1, e2⟩, hf⟩ := places t
  refine ⟨t, hf, ?_⟩
  show i ∈ ((View.whole main_v0).slice (win0_3.rect t)).set
  rw [View.set_slice_whole, Rect.mem_set_unit]
  intro a
  match a with
  | ⟨0, _⟩ => show win0_3.index t 0 * 1 ≤ (i 0).val ∧ (i 0).val < win0_3.index t 0 * 1 + 1; rw [e0]; omega
  | ⟨1, _⟩ => show win0_3.index t 1 * 1024 ≤ (i 1).val ∧ (i 1).val < win0_3.index t 1 * 1024 + 1024; rw [e1]; omega
  | ⟨2, _⟩ => show win0_3.index t 2 * 1024 ≤ (i 2).val ∧ (i 2).val < win0_3.index t 2 * 1024 + 1024; rw [e2]; omega

/-- The result array after the run. -/
theorem final (m : (ℓ : Loc nD τ sig) → Buf (Elt Ideal) ℓ) (c : Dev nD) : (dats m 0 c).arrAt 3 cfg0.N = result m c :=
  (dats m 0 c).arrAt_eq_of_cover 3 _ (fun t _ => flushed_eq m c t) covered

/-- The reference's composed term, entry by entry, is the same. -/
theorem reference_eq (x : FVec Ideal Reference5Ideal.S16x1024x2048 .bf16) (w : FVec Ideal Reference5Ideal.S16x2048x4096 .f32)
    (g : FVec Ideal Reference5Ideal.S16x1024x1 .f32) (i : S16x1024x4096.Idx) :
    truncf (F := Ideal) .bf16 (mulf (Host.dotGeneral Reference5Ideal.dot_S16x1024x2048_S16x2048x4096_S16x1024x4096_2_1_1_2_0_0 none
      (extf .f32 x Reference5Ideal.Facts₀.bitsLt_bf16_f32) w)
      (broadcastInDim Reference5Ideal.S16x1024x4096 ![0, 1, 2] Reference5Ideal.Facts₀.bcast_S16x1024x1_S16x1024x4096_0_1_2 g))
      Reference5Ideal.Facts₀.bitsLt_bf16_f32 i
    = product x w g i := by
  unfold product
  pointwise

/-- The claim. -/
theorem claim : Cert.algebraic_Kernel5Ideal_Reference5Ideal := by
  intro m g m' g' _ hargs
  refine ⟨result m, ?_, ?_⟩
  · exact (θ_run Cert.Kernel5Ideal.defs _ _).mono (fun r h c => ⟨(h c).1.trans (final m c), (h c).2⟩) (run_blocks m g)
  · refine (θ_run Cert.Reference5Ideal.defs _ _).mono (fun r h c => ⟨(h c).1.trans ?_, (h c).2⟩) (Cert.Reference5Ideal.Value.run m' g')
    rw [(hargs c).1, (hargs c).2.1, (hargs c).2.2]
    funext i
    exact reference_eq (m (c.tc.loc main_arg0)) (m (c.tc.loc main_arg1)) (m (c.tc.loc main_arg2)) i

/-- The reference's frame. -/
theorem frame_reference : Cert.quiescent_Reference5Ideal := by
  intro m g _
  exact (θ_run Cert.Reference5Ideal.defs _ _).mono (fun r h => ⟨fun c => (h c).2, sem_eq_zero_of_no_sems (by decide) _⟩)
    (Cert.Reference5Ideal.Value.run m g)

end Cert.Proof.Down

end
-- ==== Proof.Combine.Payload.lean ====
/- The combination's body: what a point computes from its slots, the experts' rows, the residual and the two gains. -/
module

public import proofs.«01_k».proof.Defs
public import proofs.«01_k».proof.Proof.Gen.Kernel6Ideal.Value
public import Idealize.ShloMosaic.Lib.Pointwise
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.Combine

open Cert.Kernel6Ideal Cert.Kernel6Ideal.Gen Cert.Kernel6Ideal.Value

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl
theorem origin4 : (![0, 0, 0, 0] : Fin 4 → Nat) = fun _ => 0 := funext fun a => by fin_cases a <;> rfl

/-- Each of the sixteen columns can be sliced out. -/
theorem columns : ∀ e : Fin 16, S128x16.Slices ![0, e.val] S128x1 := by decide

/-- Which of an expert's places a token's row takes: one at its slot, zero elsewhere. -/
def piece (s : Vec F S1x128x16 .i32) (e : Fin 16) : FVec F S128x256 .bf16 :=
  truncf .bf16 (select (cmpi .eq (broadcastTo S128x256 (extractStridedSlice S128x1 ![0, e.val] (k0_pay2 s) (columns e)) broadcasts_S128x1_S128x256)
      (iota .tc S128x256 32 [1] iota_S128x256_d1_w32))
    (broadcast S128x256 (Scalar.ofBits .f32 0x3F800000#32)) (broadcast S128x256 (Scalar.ofBits .f32 0x00000000#32))) bitsLt_bf16_f32

/-- The sixteen experts' places side by side. -/
def joined (s : Vec F S1x128x16 .i32) : FVec F S128x4096 .bf16 :=
  concatenate S128x4096 1 (List.ofFn fun e : Fin 16 => (⟨S128x256, piece s e⟩ : (s : Shape) × (s.Idx → F .bf16)))
    concatenates_S128x256_S128x256_S128x256_S128x256_S128x256_S128x256_S128x256_S128x256_S128x256_S128x256_S128x256_S128x256_S128x256_S128x256_S128x256_S128x256_S128x4096_d1

/-- The tokens with the experts' outputs added. -/
def mixed (J : FVec F S128x4096 .bf16) (y : Vec F S16x1x256x4096 .bf16) (x : Vec F S128x4096 .f32) (g : Vec F S1x1x4096 .f32) :
    FVec F S128x4096 .f32 :=
  addf x (mulf (broadcastTo S128x4096 (shapeCast S1x4096 g shapeCasts_S1x1x4096_S1x4096) broadcasts_S1x4096_S128x4096)
    (matmul dot_S128x4096_S4096x4096_S128x4096_1_0_0_1_n_n none J
      (shapeCast S4096x4096 (shapeCast S16x256x4096 y shapeCasts_S16x1x256x4096_S16x256x4096) shapeCasts_S16x256x4096_S4096x4096)
      (constant S128x4096 .f32 0x00000000#32)))

/-- The mean of a row's squares. -/
def meanSquare (M : FVec F S128x4096 .f32) : FVec F S128x1 .f32 :=
  divf (shapeCast S128x1 (multiReduction .add [1] S128 (mulf M M) 0x00000000#32 reduces_S128x4096_S128 (.inl rfl) rfl) shapeCasts_S128_S128x1)
    (broadcast S128x1 (Scalar.ofBits .f32 0x45800000#32))

/-- What a point leaves in the result's tile. -/
theorem tile_eq (s : Vec F S1x128x16 .i32) (y : Vec F S16x1x256x4096 .bf16) (x : Vec F S128x4096 .f32) (g : Vec F S1x1x4096 .f32)
    (f : Vec F S1x4096 .f32) : out0_5 s y x g f = k0_pay1 (mixed (joined s) y x g) (meanSquare (mixed (joined s) y x g)) f := by
  unfold out0_5 r0_2
  rw [View.canon_unit_zero origin2]
  unfold k0_pay35 k0_pay34 k0_pay33 k0_pay32 k0_pay31 k0_pay30 k0_pay29 k0_pay28 k0_pay27 k0_pay26 k0_pay25 k0_pay24 k0_pay23 k0_pay22 k0_pay21
  rw [show View.ld s r0_0 = s from View.ld_unit_zero (S := S1x128x16) origin3 _ s,
    show View.ld y r0_1 = y from View.ld_unit_zero (S := S16x1x256x4096) origin4 _ y,
    show View.ld x (Rect.unit (s := S128x4096) ![0, 0] S128x4096.size inb_S128x4096_S128x4096_0_0) = x from View.ld_unit_zero (S := S128x4096) origin2 _ x,
    show View.ld g r0_3 = g from View.ld_unit_zero (S := S1x1x4096) origin3 _ g,
    show View.ld f r0_4 = f from View.ld_unit_zero (S := S1x4096) origin2 _ f]
  rfl

/-- A sum over the places of all experts is the sum over the experts of the sums over the places of each. -/
theorem sum_places {M : Type} [AddCommMonoid M] (f : Fin 4096 → M) :
    ∑ k, f k = ∑ e : Fin 16, ∑ c : Fin 256, f ⟨c.val + 256 * e.val, by omega⟩ := by
  rw [← Fintype.sum_prod_type' (f := fun (e : Fin 16) (c : Fin 256) => f ⟨c.val + 256 * e.val, by omega⟩)]
  exact (Equiv.sum_comp (finProdFinEquiv (m := 16) (n := 256)) f).symm

/-- An entry of one expert's places. -/
theorem piece_at (s : IVec S1x128x16 32) (e : Fin 16) (r : Fin 128) (k : Fin 256) :
    piece (F := Ideal) s e (ix2 r k) = if s (ix3 (0 : Fin 1) r e) = BitVec.ofNat 32 k.val then 1 else 0 := by
  unfold piece k0_pay2
  pointwise
  by_cases h : s (ix3 (0 : Fin 1) r e) = BitVec.ofNat 32 k.val
  · rw [if_pos h, h]
    simp [IntOp.cmpi, Scalar.select]
  · rw [if_neg h]
    have hb : (s (ix3 (0 : Fin 1) r e) == BitVec.ofNat 32 k.val) = false := beq_eq_false_iff_ne.2 h
    simp [IntOp.cmpi, Scalar.select, hb]

/-- An entry of all experts' places. -/
theorem joined_at (s : IVec S1x128x16 32) (r : Fin 128) (e : Fin 16) (k : Fin 256) :
    joined (F := Ideal) s (ix2 r (⟨k.val + 256 * e.val, by omega⟩ : Fin 4096)) = piece (F := Ideal) s e (ix2 r k) := by
  unfold joined
  refine concatenate_ofFn_apply (1 : Fin S128x4096.rank) (fun e => piece (F := Ideal) s e) _ rfl 256 rfl _ e ?_ _ ?_ ?_
  · show (k.val + 256 * e.val) / 256 = _
    omega
  · show k.val = (k.val + 256 * e.val) % 256
    omega
  · intro b hb
    match b with
    | ⟨0, _⟩ => rfl
    | ⟨1, _⟩ => exact absurd rfl hb

/-- An entry of the tokens with the experts' outputs added. -/
theorem mixed_at (J : FVec Ideal S128x4096 .bf16) (y : FVec Ideal S16x1x256x4096 .bf16) (x : FVec Ideal S128x4096 .f32)
    (g : FVec Ideal S1x1x4096 .f32) (r : Fin 128) (d : Fin 4096) :
    mixed J y x g (ix2 r d) = x (ix2 r d) + g (ix3 (0 : Fin 1) (0 : Fin 1) d)
      * ∑ e : Fin 16, ∑ k : Fin 256, J (ix2 r (⟨k.val + 256 * e.val, by omega⟩ : Fin 4096)) * y (ix4 e (0 : Fin 1) k d) := by
  unfold mixed
  pointwise
  rw [sum_places]
  refine congrArg (fun v => x (ix2 r d) + g (ix3 (0 : Fin 1) (0 : Fin 1) d) * v) ?_
  refine Finset.sum_congr rfl fun e _ => Finset.sum_congr rfl fun k _ => ?_
  have h1 : (k.val + 256 * e.val) / 256 = e.val := by omega
  have h2 : (k.val + 256 * e.val) % 256 = k.val := by omega
  refine congrArg (fun v => J (ix2 r (⟨k.val + 256 * e.val, by omega⟩ : Fin 4096)) * y v) ?_
  funext a
  apply Fin.ext
  match a with
  | ⟨0, _⟩ => exact h1
  | ⟨1, _⟩ => rfl
  | ⟨2, _⟩ => exact h2
  | ⟨3, _⟩ => rfl

/-- A row divided by the root of its mean square. -/
def scaled (row : Fin 4096 → EReal) (f : EReal) (d : Fin 4096) : EReal :=
  row d * Ideal.rsqrt (Ideal.div (∑ k, row k * row k) (Ideal.ofBits .f32 0x45800000#32) + Ideal.ofBits .f32 0x358637BD#32) * f

/-- An entry of the normed tile. -/
theorem normed_at (M : FVec Ideal S128x4096 .f32) (f : FVec Ideal S1x4096 .f32) (r : Fin 128) (d : Fin 4096) :
    k0_pay1 M (meanSquare M) f (ix2 r d) = scaled (fun k => M (ix2 r k)) (f (ix2 (0 : Fin 1) d)) d := by
  unfold scaled meanSquare
  pointwise [k0_pay1]

end Cert.Proof.Combine

end
-- ==== Proof.Combine.Pick.lean ====
/- The row that a slot picks: a sum over the places with one of them kept, and the row gathered at the slot. -/
module

public import proofs.«01_k».proof.Defs
public import proofs.«01_k».proof.Proof.Gen.Reference6Ideal
public import Idealize.ShloMosaic.Lib.Pointwise
public import Idealize.ShloMosaic.Lib.ValueIdxCore

@[expose] public section

set_option maxRecDepth 16384

noncomputable section

open Idealize.ShloMosaic Idealize.ShloMosaic.TcCoe Idealize.SL.Sem

namespace Cert.Proof.Combine

/-- A slot within an expert's places. -/
def Within (w : BitVec 32) : Prop := 0 ≤ w.toInt ∧ w.toInt < 256

instance (w : BitVec 32) : Decidable (Within w) := inferInstanceAs (Decidable (_ ∧ _))

/-- What an expert gives a token: its row at the token's slot, or nothing where the slot isn't within the places. -/
def picked (w : BitVec 32) (f : Fin 256 → EReal) : EReal :=
  if Within w then f ⟨min w.toInt.toNat 255, by omega⟩ else 0

/-- The sum over the places of the rows, all but the slot's times zero, is what the slot picks. -/
theorem sum_pick (w : BitVec 32) (f : Fin 256 → EReal) :
    ∑ k : Fin 256, (if w = BitVec.ofNat 32 k.val then 1 else 0) * f k = picked w f := by
  unfold picked
  by_cases h : Within w
  · rw [if_pos h]
    obtain ⟨h0, h1⟩ := h
    have ht : w.toInt = w.toNat := by
      rw [BitVec.toInt_eq_toNat_cond] at h0 h1 ⊢
      have := w.isLt
      split at h0 <;> split <;> omega
    have hm : min w.toInt.toNat 255 = w.toNat := by omega
    have hw : w.toNat < 256 := by omega
    rw [Finset.sum_eq_single (⟨min w.toInt.toNat 255, by omega⟩ : Fin 256)]
    · rw [if_pos, one_mul]
      apply BitVec.eq_of_toNat_eq
      rw [BitVec.toNat_ofNat]
      show w.toNat = min w.toInt.toNat 255 % 2 ^ 32
      omega
    · intro k _ hk
      rw [if_neg, zero_mul]
      intro e
      apply hk
      apply Fin.ext
      show k.val = min w.toInt.toNat 255
      have : w.toNat = k.val := by
        rw [e, BitVec.toNat_ofNat]
        have := k.isLt
        omega
      omega
    · intro hn
      exact absurd (Finset.mem_univ _) hn
  · rw [if_neg h]
    refine Finset.sum_eq_zero fun k _ => ?_
    rw [if_neg, zero_mul]
    intro e
    apply h
    have hk := k.isLt
    have ht : w.toNat = k.val := by
      rw [e, BitVec.toNat_ofNat]
      omega
    unfold Within
    rw [BitVec.toInt_eq_toNat_cond]
    split <;> omega

section Gather

open Cert.Reference6Ideal

/-- The gather at an index: the row of the sample and expert at the start index, read signed and clamped to the places. -/
theorem gather_at {α : Type} (x : S4x16x256x4096.Idx → α) (i : IVec S4x16x2048x1 32) (b : Fin 4) (e : Fin 16) (s : Fin 2048) (d : Fin 4096) :
    Host.gather gather_S4x16x256x4096_S4x16x2048x1_S4x16x2048x4096_3_2_01_01_2_3_1114096 x i (ix4 b e s d)
      = x (ix4 b e (⟨min (i (ix4 b e s (0 : Fin 1))).toInt.toNat 255, by omega⟩ : Fin 256) d) := by
  set D := gather_S4x16x256x4096_S4x16x2048x1_S4x16x2048x4096_3_2_01_01_2_3_1114096 with hD
  unfold Host.gather
  refine congrArg x ?_
  funext a
  refine Fin.ext ?_
  show D.start (ix4 b e s d) i a + D.batchCoord (ix4 b e s d) a + D.offCoord (ix4 b e s d) a = _
  match a with
  | ⟨0, _⟩ =>
    rw [GatherDims.start_batching _ _ _ _ (by rw [hD]; show (0 : Fin 4) ∈ [(0 : Fin 4), 1]; decide),
      GatherDims.offCoord_eq_zero _ _ _ (fun h => ((GatherDims.mem_sKept _ _).mp h).2 (by rw [hD]; show (0 : Fin 4) ∈ [(0 : Fin 4), 1]; decide))]
    simp only [Nat.zero_add, Nat.add_zero]
    rfl
  | ⟨1, _⟩ =>
    rw [GatherDims.start_batching _ _ _ _ (by rw [hD]; show (1 : Fin 4) ∈ [(0 : Fin 4), 1]; decide),
      GatherDims.offCoord_eq_zero _ _ _ (fun h => ((GatherDims.mem_sKept _ _).mp h).2 (by rw [hD]; show (1 : Fin 4) ∈ [(0 : Fin 4), 1]; decide))]
    simp only [Nat.zero_add, Nat.add_zero]
    rfl
  | ⟨2, _⟩ =>
    show D.start (ix4 b e s d) i (2 : Fin 4) + D.batchCoord (ix4 b e s d) (2 : Fin 4) + D.offCoord (ix4 b e s d) (2 : Fin 4) = _
    rw [GatherDims.batchCoord_eq_zero _ _ _ (by rw [hD]; show (2 : Fin 4) ∉ [(0 : Fin 4), 1]; decide),
      GatherDims.offCoord_eq_zero _ _ _ (fun h => ((GatherDims.mem_sKept _ _).mp h).1 (by rw [hD]; show (2 : Fin 4) ∈ [(2 : Fin 4)]; decide))]
    simp only [Nat.add_zero]
    unfold GatherDims.start
    rw [dif_pos (show (2 : Fin 4) ∈ D.startIndexMap from (by rw [hD]; show (2 : Fin 4) ∈ [(2 : Fin 4)]; decide))]
    have hsi : D.siIdx (ix4 b e s d) ⟨List.idxOf (2 : Fin 4) D.startIndexMap,
        List.idxOf_lt_length_iff.2 (by rw [hD]; show (2 : Fin 4) ∈ [(2 : Fin 4)]; decide)⟩ = ix4 b e s (0 : Fin 1) := by
      funext q; refine Fin.ext ?_
      match q with
      | ⟨0, _⟩ => rfl
      | ⟨1, _⟩ => rfl
      | ⟨2, _⟩ => rfl
      | ⟨3, _⟩ => rfl
    rw [hsi]
    rfl
  | ⟨3, _⟩ =>
    rw [GatherDims.batchCoord_eq_zero _ _ _ (by rw [hD]; show (3 : Fin 4) ∉ [(0 : Fin 4), 1]; decide)]
    unfold GatherDims.start
    rw [dif_neg (by rw [hD]; show (3 : Fin 4) ∉ [(2 : Fin 4)]; decide)]
    simp only [Nat.zero_add, Nat.add_zero]
    rfl

end Gather

end Cert.Proof.Combine

end
-- ==== Proof.Combine.Reference.lean ====
/- The combination's reference, entry by entry. -/
module

public import proofs.«01_k».proof.Defs
public import proofs.«01_k».proof.Proof.Gen.Reference6Ideal.Run
public import proofs.«01_k».proof.Proof.Combine.Pick
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Proof.Combine.Plain

open Idealize.ShloMosaic.ValueIdx (select_one select_zero)
open Cert.Reference6Ideal Cert.Reference6Ideal.Gen Cert.Reference6Ideal.Value

/-- Whether a token's slot of an expert is one of the places. -/
def chosen (s : IVec S4x2048x16 32) : IVec S4x2048x16 1 :=
  andi (cmpi .sge s (broadcastInDim S4x2048x16 ![] bcast_S_S4x2048x16 (constantI S_ 32 0#32)))
    (cmpi .slt s (broadcastInDim S4x2048x16 ![] bcast_S_S4x2048x16 (constantI S_ 32 256#32)))

/-- The slots, with zero where there is none. -/
def starts (s : IVec S4x2048x16 32) : IVec S4x16x2048 32 :=
  transpose S4x16x2048 [0, 2, 1] (select (chosen s) s (broadcastInDim S4x2048x16 ![] bcast_S_S4x2048x16 (constantI S_ 32 0#32)))
    transposes_S4x2048x16_S4x16x2048_0_2_1

/-- The same, with a negative one counted from the end. -/
def places (s : IVec S4x2048x16 32) : IVec S4x16x2048 32 :=
  select (cmpi .slt (starts s) (broadcastInDim S4x16x2048 ![] bcast_S_S4x16x2048 (constantI S_ 32 0#32)))
    (addi (starts s) (broadcastInDim S4x16x2048 ![] bcast_S_S4x16x2048 (constantI S_ 32 256#32))) (starts s)

/-- The rows gathered, and nothing where there is no slot. -/
def kept (s : IVec S4x2048x16 32) (y : FVec Ideal S16x4x256x4096 .bf16) : FVec Ideal S4x16x2048x4096 .f32 :=
  select (broadcastInDim S4x16x2048x4096 ![0, 1, 2, 3] bcast_S4x16x2048x1_S4x16x2048x4096_0_1_2_3
      (broadcastInDim S4x16x2048x1 ![0, 1, 2] bcast_S4x16x2048_S4x16x2048x1_0_1_2
        (transpose S4x16x2048 [0, 2, 1] (chosen s) transposes_S4x2048x16_S4x16x2048_0_2_1)))
    (Host.gather gather_S4x16x256x4096_S4x16x2048x1_S4x16x2048x4096_3_2_01_01_2_3_1114096
      (extf .f32 (transpose S4x16x256x4096 [1, 0, 2, 3] y transposes_S16x4x256x4096_S4x16x256x4096_1_0_2_3) bitsLt_bf16_f32)
      (broadcastInDim S4x16x2048x1 ![0, 1, 2] bcast_S4x16x2048_S4x16x2048x1_0_1_2 (places s)))
    (broadcastInDim S4x16x2048x4096 ![] bcast_S_S4x16x2048x4096 (constant S_ .f32 0x00000000#32))

/-- The tokens with the experts' rows added. -/
def tokens (s : IVec S4x2048x16 32) (y : FVec Ideal S16x4x256x4096 .bf16) (x : FVec Ideal S8192x4096 .f32)
    (g : FVec Ideal S4x1x4096 .f32) : FVec Ideal S4x2048x4096 .f32 :=
  addf (shapeCast S4x2048x4096 x shapeCasts_S8192x4096_S4x2048x4096)
    (mulf (broadcastInDim S4x2048x4096 ![0, 1, 2] bcast_S4x1x4096_S4x2048x4096_0_1_2 g)
      (Host.reduceAdd (kept s y) (constant S_ .f32 0x00000000#32) reducesTo_S4x16x2048x4096_S4x2048x4096_d1 h_S_))

/-- The tokens, each over the root of its mean square, times the gain. -/
def normed (T : FVec Ideal S4x2048x4096 .f32) (f : FVec Ideal S1x4096 .f32) : FVec Ideal S8192x4096 .f32 :=
  shapeCast S8192x4096
    (mulf (mulf T (broadcastInDim S4x2048x4096 ![0, 1, 2] bcast_S4x2048x1_S4x2048x4096_0_1_2
        (Host.rsqrt (addf (Host.divf (broadcastInDim S4x2048x1 ![0, 1] bcast_S4x2048_S4x2048x1_0_1
            (Host.reduceAdd (mulf T T) (constant S_ .f32 0x00000000#32) reducesTo_S4x2048x4096_S4x2048_d2 h_S_))
            (broadcastInDim S4x2048x1 ![] bcast_S_S4x2048x1 (constant S_ .f32 0x45800000#32)))
          (broadcastInDim S4x2048x1 ![] bcast_S_S4x2048x1 (constant S_ .f32 0x358637BD#32))))))
      (broadcastInDim S4x2048x4096 ![0, 1, 2] bcast_S1x1x4096_S4x2048x4096_0_1_2 (broadcastInDim S1x1x4096 ![1, 2] bcast_S1x4096_S1x1x4096_1_2 f)))
    shapeCasts_S4x2048x4096_S8192x4096

/-- The reference's composed term. -/
theorem composed (m : (ℓ : Loc nD τ sig) → Buf (Elt Ideal) ℓ) (c : Dev nD) : res_main_v37 m c
    = normed (tokens (m (c.tc.loc main_arg0)) (m (c.tc.loc main_arg1)) (m (c.tc.loc main_arg2)) (m (c.tc.loc main_arg3))) (m (c.tc.loc main_arg4)) := by
  unfold res_main_v37
  rfl

/-- Being one of the places, as a bit. -/
theorem within_bit (w : BitVec 32) : IntOp.andi (IntOp.cmpi .sge w 0#32) (IntOp.cmpi .slt w 256#32) = if Within w then 1#1 else 0#1 := by
  have h0 : (0#32).toInt = 0 := rfl
  have h1 : (256#32).toInt = 256 := rfl
  have e0 : (0#32).sle w = decide (0 ≤ w.toInt) := by rw [BitVec.sle, h0]
  have e1 : w.slt 256#32 = decide (w.toInt < 256) := by rw [BitVec.slt, h1]
  show BitVec.ofBool ((0#32).sle w) &&& BitVec.ofBool (w.slt 256#32) = _
  rw [e0, e1]
  unfold Within
  by_cases a : 0 ≤ w.toInt <;> by_cases b : w.toInt < 256 <;> simp [a, b]

/-- A slot's start. -/
theorem starts_at (s : IVec S4x2048x16 32) (b : Fin 4) (e : Fin 16) (t : Fin 2048) :
    starts s (ix3 b e t) = if Within (s (ix3 b t e)) then s (ix3 b t e) else 0#32 := by
  unfold starts chosen
  pointwise
  rw [within_bit]
  by_cases h : Within (s (ix3 b t e))
  · rw [if_pos h, if_pos h, select_one]
  · rw [if_neg h, if_neg h, select_zero]

/-- No start is negative, so none is moved. -/
theorem places_at (s : IVec S4x2048x16 32) (b : Fin 4) (e : Fin 16) (t : Fin 2048) :
    places s (ix3 b e t) = if Within (s (ix3 b t e)) then s (ix3 b t e) else 0#32 := by
  have hn : ∀ w : BitVec 32, 0 ≤ w.toInt → IntOp.cmpi .slt w 0#32 = 0#1 := fun w hw => by
    have h0 : (0#32).toInt = 0 := rfl
    have e1 : w.slt 0#32 = decide (w.toInt < 0) := by rw [BitVec.slt, h0]
    show BitVec.ofBool (w.slt 0#32) = _
    rw [e1, decide_eq_false (not_lt.2 hw)]
    rfl
  unfold places
  pointwise
  rw [starts_at]
  by_cases h : Within (s (ix3 b t e))
  · rw [if_pos h, hn _ h.1, select_zero]
  · rw [if_neg h, hn _ (le_of_eq rfl), select_zero]

/-- A kept row's entry. -/
theorem kept_at (s : IVec S4x2048x16 32) (y : FVec Ideal S16x4x256x4096 .bf16) (b : Fin 4) (e : Fin 16) (t : Fin 2048) (d : Fin 4096) :
    kept s y (ix4 b e t d) = picked (s (ix3 b t e)) fun k => y (ix4 e b k d) := by
  have hp : broadcastInDim S4x16x2048x1 ![0, 1, 2] bcast_S4x16x2048_S4x16x2048x1_0_1_2 (places s) (ix4 b e t (0 : Fin 1))
      = if Within (s (ix3 b t e)) then s (ix3 b t e) else 0#32 := by
    rw [← places_at]
    pointwise
  unfold kept
  pointwise
  rw [gather_at]
  pointwise [chosen]
  rw [within_bit]
  unfold picked
  by_cases h : Within (s (ix3 b t e))
  · rw [if_pos h, if_pos h, select_one]
    refine congrArg (fun v => y (ix4 e b v d)) (Fin.ext ?_)
    show min (places s (ix3 b e t)).toInt.toNat 255 = min (s (ix3 b t e)).toInt.toNat 255
    rw [places_at, if_pos h]
  · rw [if_neg h, if_neg h, select_zero]

/-- A token's entry. -/
theorem tokens_at (s : IVec S4x2048x16 32) (y : FVec Ideal S16x4x256x4096 .bf16) (x : FVec Ideal S8192x4096 .f32)
    (g : FVec Ideal S4x1x4096 .f32) (b : Fin 4) (t : Fin 2048) (d : Fin 4096) :
    tokens s y x g (ix3 b t d) = x (ix2 (⟨t.val + 2048 * b.val, by omega⟩ : Fin 8192) d)
      + g (ix3 b (0 : Fin 1) d) * ∑ e : Fin 16, kept s y (ix4 b e t d) := by
  unfold tokens
  pointwise
  refine congrArg (fun v => x (ix2 v d) + g (ix3 b (0 : Fin 1) d) * ∑ e : Fin 16, kept s y (ix4 b e t d)) (Fin.ext ?_)
  show b.val * 2048 + t.val = t.val + 2048 * b.val
  omega

/-- A normed entry. -/
theorem normed_at (T : FVec Ideal S4x2048x4096 .f32) (f : FVec Ideal S1x4096 .f32) (i : S8192x4096.Idx) (b : Fin 4) (t : Fin 2048)
    (hb : b.val = (i 0).val / 2048) (ht : t.val = (i 0).val % 2048) :
    normed T f i = T (ix3 b t (i 1)) * Ideal.rsqrt (Ideal.div (∑ k : Fin 4096, T (ix3 b t k) * T (ix3 b t k)) (Ideal.ofBits .f32 0x45800000#32)
      + Ideal.ofBits .f32 0x358637BD#32) * f (ix2 (0 : Fin 1) (i 1)) := by
  have hb' : (⟨(i 0).val / 2048, by rw [← hb]; exact b.isLt⟩ : Fin 4) = b := Fin.ext hb.symm
  have ht' : (⟨(i 0).val % 2048, by omega⟩ : Fin 2048) = t := Fin.ext ht.symm
  unfold normed
  pointwise
  rw [hb', ht']

end Cert.Proof.Combine.Plain

end
-- ==== Proof.Combine.Value.lean ====
/- The combination: each token takes, from every expert it has a slot of, its row there, times the sample's gate; the
   residual is added and the sum normed. -/
module

public import proofs.«01_k».proof.Defs
public import proofs.«01_k».proof.Proof.Combine.Payload
public import proofs.«01_k».proof.Proof.Combine.Reference

@[expose] public section

set_option maxRecDepth 16384

noncomputable section

open Idealize.ShloMosaic Idealize.ShloMosaic.TcCoe Idealize.SL.Sem
open Idealize.ShloMosaic.Pipeline (Dat)

namespace Cert.Proof.Combine

open Cert.Kernel6Ideal Cert.Kernel6Ideal.Gen Cert.Kernel6Ideal.Value

variable {F : FTy → Type} [FloatOps F]
variable (m : (ℓ : Loc nD τ sig) → Buf (Elt F) ℓ)

/-- The tiles' places: point `t` is the tile `t` of all tokens, of sample `t / 16`. -/
theorem places : ∀ t : Fin cfg0.N,
    (win0_0.index t (0 : Fin 3) = t.val / 16 ∧ win0_0.index t (1 : Fin 3) = t.val % 16 ∧ win0_0.index t (2 : Fin 3) = 0)
    ∧ (win0_1.index t (0 : Fin 4) = 0 ∧ win0_1.index t (1 : Fin 4) = t.val / 16 ∧ win0_1.index t (2 : Fin 4) = 0 ∧ win0_1.index t (3 : Fin 4) = 0)
    ∧ (win0_2.index t (0 : Fin 2) = t.val ∧ win0_2.index t (1 : Fin 2) = 0)
    ∧ (win0_3.index t (0 : Fin 3) = t.val / 16 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = t.val ∧ win0_5.index t (1 : Fin 2) = 0)
    ∧ (cfg0.win 5).flush t = true :=
  (by decide +kernel : ∀ t : Fin grid0.N, _)

/-- The slots point `t` reads. -/
def slots (c : Dev nD) (t : Fin cfg0.N) : Vec F S1x128x16 .i32 := iblk m c 0 t

/-- The experts' rows it reads, the whole of its sample's. -/
def outputs (c : Dev nD) (t : Fin cfg0.N) : Vec F S16x1x256x4096 .bf16 := iblk m c 1 t

/-- The tokens it reads. -/
def residual (c : Dev nD) (t : Fin cfg0.N) : Vec F S128x4096 .f32 := iblk m c 2 t

/-- Its sample's gate. -/
def gate (c : Dev nD) (t : Fin cfg0.N) : Vec F S1x1x4096 .f32 := iblk m c 3 t

/-- The norm's gain. -/
def gain (c : Dev nD) (t : Fin cfg0.N) : Vec F S1x4096 .f32 := iblk m c 4 t

/-- A slot. -/
theorem slots_at (c : Dev nD) (t : Fin cfg0.N) (r : Fin 128) (e : Fin 16) (b : Fin 4) (s : Fin 2048)
    (hb : b.val = t.val / 16) (hs : s.val = 128 * (t.val % 16) + r.val) :
    slots m c t (ix3 (0 : Fin 1) r e) = (m ((c : Thread nD τ).loc main_arg0) : Vec F S4x2048x16 .i32) (ix3 b s e) := by
  obtain ⟨⟨e0, e1, e2⟩, -⟩ := places t
  unfold slots iblk
  rw [View.read_apply]
  show V m c main_arg0 _ = m (c.tc.loc main_arg0) _
  rw [V_main_arg0]
  congr 1
  funext a
  apply Fin.ext
  match a with
  | ⟨0, _⟩ => show win0_0.index t 0 * 1 + 1 * 0 = b.val; rw [e0]; omega
  | ⟨1, _⟩ => show win0_0.index t 1 * 128 + 1 * r.val = s.val; rw [e1]; omega
  | ⟨2, _⟩ => show win0_0.index t 2 * 16 + 1 * e.val = e.val; rw [e2]; omega

/-- An expert's row's entry. -/
theorem outputs_at (c : Dev nD) (t : Fin cfg0.N) (e : Fin 16) (k : Fin 256) (d : Fin 4096) (b : Fin 4) (hb : b.val = t.val / 16) :
    outputs m c t (ix4 e (0 : Fin 1) k d) = (m ((c : Thread nD τ).loc main_arg1) : Vec F S16x4x256x4096 .bf16) (ix4 e b k d) := by
  obtain ⟨-, ⟨e0, e1, e2, e3⟩, -⟩ := places t
  unfold outputs iblk
  rw [View.read_apply]
  show V m c main_arg1 _ = m (c.tc.loc main_arg1) _
  rw [V_main_arg1]
  congr 1
  funext a
  apply Fin.ext
  match a with
  | ⟨0, _⟩ => show win0_1.index t 0 * 16 + 1 * e.val = e.val; rw [e0]; omega
  | ⟨1, _⟩ => show win0_1.index t 1 * 1 + 1 * 0 = b.val; rw [e1]; omega
  | ⟨2, _⟩ => show win0_1.index t 2 * 256 + 1 * k.val = k.val; rw [e2]; omega
  | ⟨3, _⟩ => show win0_1.index t 3 * 4096 + 1 * d.val = d.val; rw [e3]; omega

/-- A token's entry. -/
theorem residual_at (c : Dev nD) (t : Fin cfg0.N) (r : Fin 128) (d : Fin 4096) (n : Fin 8192) (hn : n.val = 128 * t.val + r.val) :
    residual m c t (ix2 r d) = (m ((c : Thread nD τ).loc main_arg2) : Vec F S8192x4096 .f32) (ix2 n d) := by
  obtain ⟨-, -, ⟨e0, e1⟩, -⟩ := places t
  unfold residual iblk
  rw [View.read_apply]
  show V m c main_arg2 _ = m (c.tc.loc main_arg2) _
  rw [V_main_arg2]
  congr 1
  funext a
  apply Fin.ext
  match a with
  | ⟨0, _⟩ => show win0_2.index t 0 * 128 + 1 * r.val = n.val; rw [e0]; omega
  | ⟨1, _⟩ => show win0_2.index t 1 * 4096 + 1 * d.val = d.val; rw [e1]; omega

/-- The gate's entry. -/
theorem gate_at (c : Dev nD) (t : Fin cfg0.N) (d : Fin 4096) (b : Fin 4) (hb : b.val = t.val / 16) :
    gate m c t (ix3 (0 : Fin 1) (0 : Fin 1) d) = (m ((c : Thread nD τ).loc main_arg3) : Vec F S4x1x4096 .f32) (ix3 b (0 : Fin 1) d) := by
  obtain ⟨-, -, -, ⟨e0, e1, e2⟩, -⟩ := places t
  unfold gate iblk
  rw [View.read_apply]
  show V m c main_arg3 _ = m (c.tc.loc main_arg3) _
  rw [V_main_arg3]
  congr 1
  funext a
  apply Fin.ext
  match a with
  | ⟨0, _⟩ => show win0_3.index t 0 * 1 + 1 * 0 = b.val; rw [e0]; omega
  | ⟨1, _⟩ => show win0_3.index t 1 * 1 + 1 * 0 = 0; rw [e1]
  | ⟨2, _⟩ => show win0_3.index t 2 * 4096 + 1 * d.val = d.val; rw [e2]; omega

/-- The gain's entry. -/
theorem gain_at (c : Dev nD) (t : Fin cfg0.N) (d : Fin 4096) :
    gain m c t (ix2 (0 : Fin 1) d) = (m ((c : Thread nD τ).loc main_arg4) : Vec F S1x4096 .f32) (ix2 (0 : Fin 1) d) := by
  obtain ⟨-, -, -, -, ⟨e0, e1⟩, -⟩ := places t
  unfold gain iblk
  rw [View.read_apply]
  show V m c main_arg4 _ = m (c.tc.loc main_arg4) _
  rw [V_main_arg4]
  congr 1
  funext a
  apply Fin.ext
  match a with
  | ⟨0, _⟩ => show win0_4.index t 0 * 1 + 1 * 0 = 0; rw [e0]
  | ⟨1, _⟩ => show win0_4.index t 1 * 4096 + 1 * d.val = d.val; rw [e1]; omega

/-- A token of a sample with what its experts give it. -/
def token (s : IVec S4x2048x16 32) (y : FVec Ideal S16x4x256x4096 .bf16) (x : FVec Ideal S8192x4096 .f32) (g : FVec Ideal S4x1x4096 .f32)
    (b : Fin 4) (t : Fin 2048) (d : Fin 4096) : EReal :=
  x (ix2 (⟨t.val + 2048 * b.val, by omega⟩ : Fin 8192) d)
    + g (ix3 b (0 : Fin 1) d) * ∑ e : Fin 16, picked (s (ix3 b t e)) fun k => y (ix4 e b k d)

/-- A row's sample. -/
def sample (n : Fin 8192) : Fin 4 := ⟨n.val / 2048, by omega⟩

/-- A row's place in its sample. -/
def within (n : Fin 8192) : Fin 2048 := ⟨n.val % 2048, by omega⟩

/-- Every entry: the token, over the root of its mean square, times the gain. -/
def combined (s : IVec S4x2048x16 32) (y : FVec Ideal S16x4x256x4096 .bf16) (x : FVec Ideal S8192x4096 .f32) (g : FVec Ideal S4x1x4096 .f32)
    (f : FVec Ideal S1x4096 .f32) : FVec Ideal S8192x4096 .f32 := fun i =>
  scaled (token s y x g (sample (i 0)) (within (i 0))) (f (ix2 (0 : Fin 1) (i 1))) (i 1)

/-- The combination of the kernel's arguments. -/
def result (m : (ℓ : Loc nD τ sig) → Buf (Elt Ideal) ℓ) (c : Dev nD) : FVec Ideal S8192x4096 .f32 :=
  combined (m ((c : Thread nD τ).loc main_arg0)) (m ((c : Thread nD τ).loc main_arg1)) (m ((c : Thread nD τ).loc main_arg2))
    (m ((c : Thread nD τ).loc main_arg3)) (m ((c : Thread nD τ).loc main_arg4))

/-- A point's token is the array's. -/
theorem token_at (m : (ℓ : Loc nD τ sig) → Buf (Elt Ideal) ℓ) (c : Dev nD) (t : Fin cfg0.N) (r : Fin 128) (d : Fin 4096)
    (n : Fin 8192) (hn : n.val = 128 * t.val + r.val) :
    mixed (joined (slots m c t)) (outputs m c t) (residual m c t) (gate m c t) (ix2 r d)
      = token (m ((c : Thread nD τ).loc main_arg0)) (m ((c : Thread nD τ).loc main_arg1)) (m ((c : Thread nD τ).loc main_arg2))
          (m ((c : Thread nD τ).loc main_arg3)) (sample n) (within n) d := by
  have hb : (sample n).val = t.val / 16 := by show n.val / 2048 = _; omega
  have hs : (within n).val = 128 * (t.val % 16) + r.val := by show n.val % 2048 = _; omega
  have hx : (⟨(within n).val + 2048 * (sample n).val, by omega⟩ : Fin 8192) = n :=
    Fin.ext (by show n.val % 2048 + 2048 * (n.val / 2048) = n.val; omega)
  rw [mixed_at, residual_at m c t r d n hn, gate_at m c t d (sample n) hb]
  unfold token
  rw [hx]
  refine (fun {x g u v : EReal} (h : u = v) => (congrArg (fun v => x + g * v) h : x + g * u = x + g * v)) ?_
  refine Finset.sum_congr rfl fun e _ => ?_
  rw [← sum_pick]
  refine Finset.sum_congr rfl fun k _ => ?_
  rw [joined_at, piece_at, slots_at m c t r e (sample n) (within n) hb hs, outputs_at m c t e k d (sample n) hb]

/-- What a point computes, placed in the result. -/
theorem tile_at (m : (ℓ : Loc nD τ sig) → Buf (Elt Ideal) ℓ) (c : Dev nD) (t : Fin cfg0.N) (r : Fin 128) (d : Fin 4096)
    (i : S8192x4096.Idx) (h0 : (i 0).val = 128 * t.val + r.val) (h1 : i 1 = d) :
    k0_pay1 (mixed (joined (slots m c t)) (outputs m c t) (residual m c t) (gate m c t))
      (meanSquare (mixed (joined (slots m c t)) (outputs m c t) (residual m c t) (gate m c t))) (gain m c t) (ix2 r d) = result m c i := by
  rw [normed_at, gain_at]
  unfold result combined
  rw [h1]
  refine (fun {a b : Fin 4096 → EReal} {f : EReal} (h : a = b) => (congrArg (fun a => scaled a f d) h : scaled a f d = scaled b f d)) ?_
  funext k
  exact token_at m c t r k (i 0) h0

/-- What a point writes back is its block of the result. -/
theorem flushed_eq (m : (ℓ : Loc nD τ sig) → Buf (Elt Ideal) ℓ) (c : Dev nD) (t : Fin cfg0.N) :
    (dats m 0 c).flushed 5 t = ((cfg0.win 5).blk t).view.read (Elt Ideal) (result m c) := by
  obtain ⟨-, -, -, -, -, ⟨e0, e1⟩, -⟩ := places t
  rw [flushed5, tile_eq]
  funext y
  obtain ⟨r, d, rfl⟩ : ∃ (r : Fin 128) (d : Fin 4096), y = ix2 r d := ⟨y 0, y 1, by funext a; match a with | ⟨0, _⟩ => rfl | ⟨1, _⟩ => rfl⟩
  rw [View.read_apply]
  exact tile_at m c t r d (((cfg0.win 5).blk t).view.emb (ix2 r d))
    (by show win0_5.index t 0 * 128 + 1 * r.val = _; rw [e0]; omega)
    (Fin.ext (by show win0_5.index t 1 * 4096 + 1 * d.val = d.val; rw [e1]; omega))

/-- Every entry lies in some point's block. -/
theorem covered (i : S8192x4096.Idx) :
    ∃ t : Fin cfg0.N, (cfg0.win 5).flush t = true ∧ i ∈ ((cfg0.win 5).blk t).view.set := by
  have hN : cfg0.N = 64 := N_0
  have h0 : (i 0).val < 8192 := (i 0).isLt
  have h1 : (i 1).val < 4096 := (i 1).isLt
  have ht : (i 0).val / 128 < cfg0.N := by omega
  obtain ⟨t, et⟩ : ∃ t : Fin cfg0.N, t.val = (i 0).val / 128 := ⟨⟨_, ht⟩, rfl⟩
  obtain ⟨-, -, -, -, -, ⟨e0, e1⟩, hf⟩ := places t
  refine ⟨t, hf, ?_⟩
  show i ∈ ((View.whole main_v0).slice (win0_5.rect t)).set
  rw [View.set_slice_whole, Rect.mem_set_unit]
  intro a
  match a with
  | ⟨0, _⟩ => show win0_5.index t 0 * 128 ≤ (i 0).val ∧ (i 0).val < win0_5.index t 0 * 128 + 128; rw [e0]; omega
  | ⟨1, _⟩ => show win0_5.index t 1 * 4096 ≤ (i 1).val ∧ (i 1).val < win0_5.index t 1 * 4096 + 4096; rw [e1]; omega

/-- The result array after the run. -/
theorem final (m : (ℓ : Loc nD τ sig) → Buf (Elt Ideal) ℓ) (c : Dev nD) : (dats m 0 c).arrAt 5 cfg0.N = result m c :=
  (dats m 0 c).arrAt_eq_of_cover 5 _ (fun t _ => flushed_eq m c t) covered

/-- The reference's composed term, entry by entry, is the same. -/
theorem reference_eq (s : IVec S4x2048x16 32) (y : FVec Ideal S16x4x256x4096 .bf16) (x : FVec Ideal S8192x4096 .f32) (g : FVec Ideal S4x1x4096 .f32)
    (f : FVec Ideal S1x4096 .f32) (i : S8192x4096.Idx) : Plain.normed (Plain.tokens s y x g) f i = combined s y x g f i := by
  have ht : ∀ (b : Fin 4) (t : Fin 2048) (d : Fin 4096), Plain.tokens s y x g (ix3 b t d) = token s y x g b t d := fun b t d => by
    rw [Plain.tokens_at]
    unfold token
    simp only [Plain.kept_at]
  rw [Plain.normed_at _ _ i (sample (i 0)) (within (i 0)) rfl rfl]
  simp only [ht]
  exact congrArg (fun a : EReal => a * Ideal.rsqrt (Ideal.div
      (∑ k, token s y x g (sample (i 0)) (within (i 0)) k * token s y x g (sample (i 0)) (within (i 0)) k)
      (Ideal.ofBits .f32 0x45800000#32) + Ideal.ofBits .f32 0x358637BD#32) * f (ix2 (0 : Fin 1) (i 1)))
    (ht (sample (i 0)) (within (i 0)) (i 1))

/-- The claim. -/
theorem claim : Cert.algebraic_Kernel6Ideal_Reference6Ideal := by
  intro m g m' g' _ hargs
  refine ⟨result m, ?_, ?_⟩
  · exact (θ_run Cert.Kernel6Ideal.defs _ _).mono (fun r h c => ⟨(h c).1.trans (final m c), (h c).2⟩) (run_blocks m g)
  · refine (θ_run Cert.Reference6Ideal.defs _ _).mono (fun r h c => ⟨(h c).1.trans ?_, (h c).2⟩) (Cert.Reference6Ideal.Value.run m' g')
    rw [Plain.composed, (hargs c).1, (hargs c).2.1, (hargs c).2.2.1, (hargs c).2.2.2.1, (hargs c).2.2.2.2]
    funext i
    exact reference_eq (m (c.tc.loc main_arg0)) (m (c.tc.loc main_arg1)) (m (c.tc.loc main_arg2)) (m (c.tc.loc main_arg3))
      (m (c.tc.loc main_arg4)) i

/-- The reference's frame. -/
theorem frame_reference : Cert.quiescent_Reference6Ideal := by
  intro m g _
  exact (θ_run Cert.Reference6Ideal.defs _ _).mono (fun r h => ⟨fun c => (h c).2, sem_eq_zero_of_no_sems (by decide) _⟩)
    (Cert.Reference6Ideal.Value.run m g)

end Cert.Proof.Combine

end
-- ==== Proof.Norm.Trips.lean ====
/- The first norm's body: its sixteen trips, each norming sixteen rows. -/
module

public import proofs.«01_k».proof.Defs
public import proofs.«01_k».proof.Proof.Gen.Kernel7Ideal.Value
public import Idealize.ShloMosaic.Lib.Pointwise
public import Idealize.ShloMosaic.Lib.Pipeline.Value
public import Idealize.ShloMosaic.Lib.WritesUnit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.Norm

open Cert.Kernel7Ideal Cert.Kernel7Ideal.Gen Cert.Kernel7Ideal.Value

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-- The number of trips. -/
theorem trips_eq : k0_t1_loop.trips = 16 := by decide +kernel

/-- A trip's rows begin at sixteen times its number. -/
theorem off_eq : ∀ k : Fin k0_t1_loop.trips, k0_off1 k = ![16 * k.val, 0] := by decide +kernel

/-- A trip stores one piece: its sixteen rows, normed. -/
theorem trip_eq (𝒱 : Variants) (c : Dev nD) (bd : Option 𝒱.V) (i : grid0.Coords) (arg1 : Memref sig .tc .vmem S256x4096 .f32) (harg1 : arg1.IsWhole) (arg2 : Memref sig .tc .vmem S1x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S256x4096 .bf16) (harg5 : arg5.IsWhole) (v0 : Vec F S1x4096 .f32) (v1 : Vec F S1x1x4096 .f32) (v3 : Vec F S1x1x4096 .f32) (X : BufTy.Contents (Elt F) arg1.view.ty) (k : Fin k0_t1_loop.trips) :
    tripL_k0_t1 𝒱 c bd i arg1 harg1 arg2 harg2 arg3 harg3 arg4 harg4 arg5 harg5 v0 v1 v3 X k
      = [⟨Rect.unit (s := S256x4096) (k0_off1 k) S16x4096.size (k0_off1_inb k),
          k0_pay1 v0 v1 v3 (arg1.view.readAt (Elt F) (Rect.unit (s := S256x4096) (k0_off1 k) S16x4096.size (k0_off1_inb k)).toLoadRect X)⟩] := by
  unfold tripL_k0_t1 trip_k0_t1
  rfl

/-- Sixteen rows of a tile. -/
def rows (x : Vec F S256x4096 .f32) (k : Fin 16) : Vec F S16x4096 .f32 := fun j =>
  x (ix2 (⟨16 * k.val + (j 0).val, by have h : (j 0).val < 16 := (j 0).isLt; omega⟩ : Fin 256) (j 1))

/-- A trip's load reads its sixteen rows. -/
theorem load_eq (arg1 : Memref sig .tc .vmem S256x4096 .f32) (harg1 : arg1.IsWhole) (x : Vec F S256x4096 .f32) (k : Fin k0_t1_loop.trips)
    (k' : Fin 16) (hk : k'.val = k.val) :
    arg1.view.readAt (Elt F) (Rect.unit (s := S256x4096) (k0_off1 k) S16x4096.size (k0_off1_inb k)).toLoadRect (harg1.unread x) = rows x k' := by
  have e0 : k0_off1 k 0 = 16 * k.val := congrFun (off_eq k) 0
  have e1 : k0_off1 k 1 = 0 := congrFun (off_eq k) 1
  rw [View.readAt_eq_ld, harg1.read_unread]
  funext j
  unfold rows
  show x _ = x _
  congr 1
  funext a
  apply Fin.ext
  match a with
  | ⟨0, _⟩ => show k0_off1 k 0 + 1 * (j 0).val = 16 * k'.val + (j 0).val; omega
  | ⟨1, _⟩ => show k0_off1 k 1 + 1 * (j 1).val = (j 1).val; omega

/-- After some trips, the rows of those trips hold what each computes. -/
theorem after_trips (𝒱 : Variants) (c : Dev nD) (bd : Option 𝒱.V) (i : grid0.Coords) (arg1 : Memref sig .tc .vmem S256x4096 .f32) (harg1 : arg1.IsWhole) (arg2 : Memref sig .tc .vmem S1x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S256x4096 .bf16) (harg5 : arg5.IsWhole) (g : Vec F S1x4096 .f32) (a : Vec F S1x1x4096 .f32) (b : Vec F S1x1x4096 .f32) (x : Vec F S256x4096 .f32)
    (f : VO0_4.ty.Contents (Elt F)) (r : Fin 256) (d : Fin 4096) (k' : Fin 16) (r' : Fin 16) (hr : r.val = 16 * k'.val + r'.val) :
    ∀ n : ℕ, n ≤ 16 → r.val < 16 * n →
      VO0_4.read (Elt F) (VO0_4.writes (Elt F) f (pb_k0_t1 𝒱 c bd i arg1 harg1 arg2 harg2 arg3 harg3 arg4 harg4 arg5 harg5 g a b (harg1.unread x) n)) (ix2 r d)
        = k0_pay1 g a b (rows x k') (ix2 r' d)
  | 0, _, h => by omega
  | n + 1, hn, h => by
    have hk : n < k0_t1_loop.trips := by rw [trips_eq]; omega
    rw [pb_k0_t1_succ (k := ⟨n, hk⟩), trip_eq, List.singleton_append]
    by_cases hl : r.val < 16 * n
    · rw [View.read_writes_cons_rows_of_not_mem (o := 16 * n) (W := 16) (hoff := off_eq ⟨n, hk⟩) (hW := rfl) (h := Or.inl hl)]
      exact after_trips 𝒱 c bd i arg1 harg1 arg2 harg2 arg3 harg3 arg4 harg4 arg5 harg5 g a b x f r d k' r' hr n (by omega) hl
    · have hv : k'.val = n := by omega
      rw [load_eq arg1 harg1 x ⟨n, hk⟩ k' hv]
      exact View.read_writes_cons_rows_of_mem (d := ![256, 4096]) VO0_4 f (k0_off1_inb ⟨n, hk⟩) (k0_pay1 g a b (rows x k')) _ (ix2 r d) (ix2 r' d)
        (off_eq ⟨n, hk⟩) (by show r.val = 16 * n + r'.val; omega) rfl

/-- What a point leaves. -/
theorem out_eq (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S256x4096 .bf16) (harg5 : arg5.IsWhole)
    (x0 : Vec F S256x4096 .f32) (x1 : Vec F S1x4096 .f32) (x2 : Vec F S1x1x4096 .f32) (x3 : Vec F S1x1x4096 .f32)
    (r : Fin 256) (d : Fin 4096) (k' : Fin 16) (r' : Fin 16) (hr : r.val = 16 * k'.val + r'.val) :
    out0_A_4 c i arg1 harg1 arg2 harg2 arg3 harg3 arg4 harg4 arg5 harg5 x0 x1 x2 x3 (ix2 r d) = k0_pay1 x1 x2 x3 (rows x0 k') (ix2 r' d) := by
  unfold out0_A_4 kernelRun0_A
  dsimp only
  simp only [View.readAt_eq_ld, harg2.read_unread, harg3.read_unread, harg4.read_unread, View.ld_unit_zero (S := S1x4096) origin2,
    View.ld_unit_zero (S := S1x1x4096) origin3]
  rw [show Scf.trips (0#32) (Scalar.addi 0#32 16#32) 1#32 = 16 by decide +kernel]
  have := r.isLt
  exact after_trips _ c _ i arg1 harg1 arg2 harg2 arg3 harg3 arg4 harg4 arg5 harg5 x1 x2 x3 x0 _ r d k' r' hr 16 le_rfl (by omega)

end Cert.Proof.Norm

end
-- ==== Proof.Norm.Value.lean ====
/- The first norm: each token over the root of its mean square, times the gain, times one more than its sample's scale,
   plus its sample's shift. -/
module

public import proofs.«01_k».proof.Defs
public import proofs.«01_k».proof.Proof.Norm.Trips
public import proofs.«01_k».proof.Proof.Gen.Reference7Ideal.Run

@[expose] public section

set_option maxRecDepth 16384

noncomputable section

open Idealize.ShloMosaic Idealize.ShloMosaic.TcCoe Idealize.SL.Sem
open Idealize.ShloMosaic.Pipeline (Dat)

namespace Cert.Proof.Norm

/-- A row's entry, normed and moved. -/
def moved (row : Fin 4096 → EReal) (g a b : EReal) (d : Fin 4096) : EReal :=
  row d * Ideal.rsqrt (Ideal.div (∑ k, row k * row k) (Ideal.ofBits .f32 0x45800000#32) + Ideal.ofBits .f32 0x358637BD#32) * g
    * (1 + a) + b

namespace Plain

open Cert.Reference7Ideal Cert.Reference7Ideal.Gen Cert.Reference7Ideal.Value

/-- The reference's composed term. -/
def composed (x : FVec Ideal S8192x4096 .f32) (g : FVec Ideal S1x4096 .f32) (a b : FVec Ideal S4x1x4096 .f32) : FVec Ideal S8192x4096 .bf16 :=
  truncf .bf16 (shapeCast S8192x4096 (addf (mulf (mulf (mulf (shapeCast S4x2048x4096 x shapeCasts_S8192x4096_S4x2048x4096)
    (broadcastInDim S4x2048x4096 ![0, 1, 2] bcast_S4x2048x1_S4x2048x4096_0_1_2
      (Host.rsqrt (addf (Host.divf (broadcastInDim S4x2048x1 ![0, 1] bcast_S4x2048_S4x2048x1_0_1
          (Host.reduceAdd (mulf (shapeCast S4x2048x4096 x shapeCasts_S8192x4096_S4x2048x4096) (shapeCast S4x2048x4096 x shapeCasts_S8192x4096_S4x2048x4096))
            (constant S_ .f32 0x00000000#32) reducesTo_S4x2048x4096_S4x2048_d2 h_S_))
          (broadcastInDim S4x2048x1 ![] bcast_S_S4x2048x1 (constant S_ .f32 0x45800000#32)))
        (broadcastInDim S4x2048x1 ![] bcast_S_S4x2048x1 (constant S_ .f32 0x358637BD#32))))))
    (broadcastInDim S4x2048x4096 ![0, 1, 2] bcast_S1x1x4096_S4x2048x4096_0_1_2 (broadcastInDim S1x1x4096 ![1, 2] bcast_S1x4096_S1x1x4096_1_2 g)))
    (broadcastInDim S4x2048x4096 ![0, 1, 2] bcast_S4x1x4096_S4x2048x4096_0_1_2 (addf (broadcastInDim S4x1x4096 ![] bcast_S_S4x1x4096 (constant S_ .f32 0x3F800000#32)) a)))
    (broadcastInDim S4x2048x4096 ![0, 1, 2] bcast_S4x1x4096_S4x2048x4096_0_1_2 b)) shapeCasts_S4x2048x4096_S8192x4096) bitsLt_bf16_f32

/-- An entry of it. -/
theorem composed_at (x : FVec Ideal S8192x4096 .f32) (g : FVec Ideal S1x4096 .f32) (a b : FVec Ideal S4x1x4096 .f32) (i : S8192x4096.Idx)
    (s : Fin 4) (hs : s.val = (i 0).val / 2048) :
    composed x g a b i = moved (fun k => x (ix2 (i 0) k)) (g (ix2 (0 : Fin 1) (i 1))) (a (ix3 s (0 : Fin 1) (i 1))) (b (ix3 s (0 : Fin 1) (i 1))) (i 1) := by
  have hs' : (⟨(i 0).val / 2048, by rw [← hs]; exact s.isLt⟩ : Fin 4) = s := Fin.ext hs.symm
  unfold composed moved
  pointwise
  rw [hs']

end Plain

open Cert.Kernel7Ideal Cert.Kernel7Ideal.Gen Cert.Kernel7Ideal.Value

/-- An entry of sixteen normed rows. -/
theorem pay_at (g : FVec Ideal S1x4096 .f32) (a b : FVec Ideal S1x1x4096 .f32) (x : FVec Ideal S16x4096 .f32) (r : Fin 16) (d : Fin 4096) :
    k0_pay1 (F := Ideal) g a b x (ix2 r d)
      = moved (fun k => x (ix2 r k)) (g (ix2 (0 : Fin 1) d)) (a (ix3 (0 : Fin 1) (0 : Fin 1) d)) (b (ix3 (0 : Fin 1) (0 : Fin 1) d)) d := by
  unfold moved
  pointwise [k0_pay1]

variable {F : FTy → Type} [FloatOps F]
variable (m : (ℓ : Loc nD τ sig) → Buf (Elt F) ℓ)

/-- The tiles' places: point `t` is the tile `t` of all tokens, of sample `t / 8`. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0)
    ∧ (win0_4.index t (0 : Fin 2) = t.val ∧ win0_4.index t (1 : Fin 2) = 0)
    ∧ (cfg0.win 4).flush t = true :=
  (by decide +kernel : ∀ t : Fin grid0.N, _)

/-- The tokens point `t` reads. -/
def tokens (c : Dev nD) (t : Fin cfg0.N) : Vec F S256x4096 .f32 := iblk m c 0 t

/-- The gain it reads. -/
def gain (c : Dev nD) (t : Fin cfg0.N) : Vec F S1x4096 .f32 := iblk m c 1 t

/-- Its sample's scale. -/
def scale (c : Dev nD) (t : Fin cfg0.N) : Vec F S1x1x4096 .f32 := iblk m c 2 t

/-- Its sample's shift. -/
def shift (c : Dev nD) (t : Fin cfg0.N) : Vec F S1x1x4096 .f32 := iblk m c 3 t

/-- A token's entry. -/
theorem tokens_at (c : Dev nD) (t : Fin cfg0.N) (r : Fin 256) (d : Fin 4096) (n : Fin 8192) (hn : n.val = 256 * t.val + r.val) :
    tokens m c t (ix2 r d) = (m ((c : Thread nD τ).loc main_arg0) : Vec F S8192x4096 .f32) (ix2 n d) := by
  obtain ⟨⟨e0, e1⟩, -⟩ := places t
  unfold tokens iblk
  rw [View.read_apply]
  show V m c main_arg0 _ = m (c.tc.loc main_arg0) _
  rw [V_main_arg0]
  congr 1
  funext a
  apply Fin.ext
  match a with
  | ⟨0, _⟩ => show win0_0.index t 0 * 256 + 1 * r.val = n.val; rw [e0]; omega
  | ⟨1, _⟩ => show win0_0.index t 1 * 4096 + 1 * d.val = d.val; rw [e1]; omega

/-- The gain's entry. -/
theorem gain_at (c : Dev nD) (t : Fin cfg0.N) (d : Fin 4096) :
    gain m c t (ix2 (0 : Fin 1) d) = (m ((c : Thread nD τ).loc main_arg1) : Vec F S1x4096 .f32) (ix2 (0 : Fin 1) d) := by
  obtain ⟨-, ⟨e0, e1⟩, -⟩ := places t
  unfold gain iblk
  rw [View.read_apply]
  show V m c main_arg1 _ = m (c.tc.loc main_arg1) _
  rw [V_main_arg1]
  congr 1
  funext a
  apply Fin.ext
  match a with
  | ⟨0, _⟩ => show win0_1.index t 0 * 1 + 1 * 0 = 0; rw [e0]
  | ⟨1, _⟩ => show win0_1.index t 1 * 4096 + 1 * d.val = d.val; rw [e1]; omega

/-- The scale's entry. -/
theorem scale_at (c : Dev nD) (t : Fin cfg0.N) (d : Fin 4096) (b : Fin 4) (hb : b.val = t.val / 8) :
    scale m c t (ix3 (0 : Fin 1) (0 : Fin 1) d) = (m ((c : Thread nD τ).loc main_arg2) : Vec F S4x1x4096 .f32) (ix3 b (0 : Fin 1) d) := by
  obtain ⟨-, -, ⟨e0, e1, e2⟩, -⟩ := places t
  unfold scale iblk
  rw [View.read_apply]
  show V m c main_arg2 _ = m (c.tc.loc main_arg2) _
  rw [V_main_arg2]
  congr 1
  funext a
  apply Fin.ext
  match a with
  | ⟨0, _⟩ => show win0_2.index t 0 * 1 + 1 * 0 = b.val; rw [e0]; omega
  | ⟨1, _⟩ => show win0_2.index t 1 * 1 + 1 * 0 = 0; rw [e1]
  | ⟨2, _⟩ => show win0_2.index t 2 * 4096 + 1 * d.val = d.val; rw [e2]; omega

/-- The shift's entry. -/
theorem shift_at (c : Dev nD) (t : Fin cfg0.N) (d : Fin 4096) (b : Fin 4) (hb : b.val = t.val / 8) :
    shift m c t (ix3 (0 : Fin 1) (0 : Fin 1) d) = (m ((c : Thread nD τ).loc main_arg3) : Vec F S4x1x4096 .f32) (ix3 b (0 : Fin 1) d) := by
  obtain ⟨-, -, -, ⟨e0, e1, e2⟩, -⟩ := places t
  unfold shift iblk
  rw [View.read_apply]
  show V m c main_arg3 _ = m (c.tc.loc main_arg3) _
  rw [V_main_arg3]
  congr 1
  funext a
  apply Fin.ext
  match a with
  | ⟨0, _⟩ => show win0_3.index t 0 * 1 + 1 * 0 = b.val; rw [e0]; omega
  | ⟨1, _⟩ => show win0_3.index t 1 * 1 + 1 * 0 = 0; rw [e1]
  | ⟨2, _⟩ => show win0_3.index t 2 * 4096 + 1 * d.val = d.val; rw [e2]; omega

/-- A row's sample. -/
def sample (n : Fin 8192) : Fin 4 := ⟨n.val / 2048, by omega⟩

/-- Every entry, from the arguments. -/
def normed (x : FVec Ideal S8192x4096 .f32) (g : FVec Ideal S1x4096 .f32) (a b : FVec Ideal S4x1x4096 .f32) : FVec Ideal S8192x4096 .bf16 := fun i =>
  moved (fun k => x (ix2 (i 0) k)) (g (ix2 (0 : Fin 1) (i 1))) (a (ix3 (sample (i 0)) (0 : Fin 1) (i 1))) (b (ix3 (sample (i 0)) (0 : Fin 1) (i 1))) (i 1)

/-- The norm of the kernel's arguments. -/
def result (m : (ℓ : Loc nD τ sig) → Buf (Elt Ideal) ℓ) (c : Dev nD) : FVec Ideal S8192x4096 .bf16 :=
  normed (m ((c : Thread nD τ).loc main_arg0)) (m ((c : Thread nD τ).loc main_arg1)) (m ((c : Thread nD τ).loc main_arg2))
    (m ((c : Thread nD τ).loc main_arg3))

/-- What a point computes, placed in the result. -/
theorem tile_at (m : (ℓ : Loc nD τ sig) → Buf (Elt Ideal) ℓ) (c : Dev nD) (t : Fin cfg0.N) (k : Fin 16) (r : Fin 16) (d : Fin 4096)
    (i : S8192x4096.Idx) (h0 : (i 0).val = 256 * t.val + (16 * k.val + r.val)) (h1 : i 1 = d) :
    k0_pay1 (gain m c t) (scale m c t) (shift m c t) (rows (tokens m c t) k) (ix2 r d) = result m c i := by
  have hb : (sample (i 0)).val = t.val / 8 := by show (i 0).val / 2048 = _; omega
  rw [pay_at, gain_at, scale_at m c t d _ hb, shift_at m c t d _ hb]
  unfold result normed
  rw [h1]
  refine (fun {p q : Fin 4096 → EReal} {g a b : EReal} (h : p = q) => (congrArg (fun p => moved p g a b d) h : moved p g a b d = moved q g a b d)) ?_
  funext e
  exact tokens_at m c t (⟨16 * k.val + r.val, by omega⟩ : Fin 256) e (i 0) h0

/-- What a point writes back is its block of the result. -/
theorem flushed_eq (m : (ℓ : Loc nD τ sig) → Buf (Elt Ideal) ℓ) (c : Dev nD) (t : Fin cfg0.N) :
    (dats m 0 c).flushed 4 t = ((cfg0.win 4).blk t).view.read (Elt Ideal) (result m c) := by
  obtain ⟨-, -, -, -, ⟨e0, e1⟩, -⟩ := places t
  rw [flushed4_A]
  funext y
  obtain ⟨r, d, rfl⟩ : ∃ (r : Fin 256) (d : Fin 4096), y = ix2 r d := ⟨y 0, y 1, by funext a; match a with | ⟨0, _⟩ => rfl | ⟨1, _⟩ => rfl⟩
  rw [View.read_apply]
  refine (out_eq c _ _ _ _ _ _ _ _ _ _ _ (tokens m c t) (gain m c t) (scale m c t) (shift m c t) r d ⟨r.val / 16, by omega⟩ ⟨r.val % 16, by omega⟩
    (by show r.val = 16 * (r.val / 16) + r.val % 16; omega)).trans ?_
  exact tile_at m c t ⟨r.val / 16, by omega⟩ ⟨r.val % 16, by omega⟩ d (((cfg0.win 4).blk t).view.emb (ix2 r d))
    (by show win0_4.index t 0 * 256 + 1 * r.val = 256 * t.val + (16 * (r.val / 16) + r.val % 16); rw [e0]; omega)
    (Fin.ext (by show win0_4.index t 1 * 4096 + 1 * d.val = d.val; rw [e1]; omega))

/-- Every entry lies in some point's block. -/
theorem covered (i : S8192x4096.Idx) :
    ∃ t : Fin cfg0.N, (cfg0.win 4).flush t = true ∧ i ∈ ((cfg0.win 4).blk t).view.set := by
  have hN : cfg0.N = 32 := N_0
  have h0 : (i 0).val < 8192 := (i 0).isLt
  have h1 : (i 1).val < 4096 := (i 1).isLt
  have ht : (i 0).val / 256 < cfg0.N := by omega
  obtain ⟨t, et⟩ : ∃ t : Fin cfg0.N, t.val = (i 0).val / 256 := ⟨⟨_, ht⟩, rfl⟩
  obtain ⟨-, -, -, -, ⟨e0, e1⟩, hf⟩ := places t
  refine ⟨t, hf, ?_⟩
  show i ∈ ((View.whole main_v0).slice (win0_4.rect t)).set
  rw [View.set_slice_whole, Rect.mem_set_unit]
  intro a
  match a with
  | ⟨0, _⟩ => show win0_4.index t 0 * 256 ≤ (i 0).val ∧ (i 0).val < win0_4.index t 0 * 256 + 256; rw [e0]; omega
  | ⟨1, _⟩ => show win0_4.index t 1 * 4096 ≤ (i 1).val ∧ (i 1).val < win0_4.index t 1 * 4096 + 4096; rw [e1]; omega

/-- The result array after the run. -/
theorem final (m : (ℓ : Loc nD τ sig) → Buf (Elt Ideal) ℓ) (c : Dev nD) : (dats m 0 c).arrAt 4 cfg0.N = result m c :=
  (dats m 0 c).arrAt_eq_of_cover 4 _ (fun t _ => flushed_eq m c t) covered

/-- The claim. -/
theorem claim : Cert.algebraic_Kernel7Ideal_Reference7Ideal := by
  intro m g m' g' _ hargs
  refine ⟨result m, ?_, ?_⟩
  · exact (θ_run Cert.Kernel7Ideal.defs _ _).mono (fun r h c => ⟨(h c).1.trans (final m c), (h c).2⟩) (run_blocks m g)
  · refine (θ_run Cert.Reference7Ideal.defs _ _).mono (fun r h c => ⟨(h c).1.trans ?_, (h c).2⟩) (Cert.Reference7Ideal.Value.run m' g')
    rw [(hargs c).1, (hargs c).2.1, (hargs c).2.2.1, (hargs c).2.2.2]
    funext i
    exact Plain.composed_at (m (c.tc.loc main_arg0)) (m (c.tc.loc main_arg1)) (m (c.tc.loc main_arg2)) (m (c.tc.loc main_arg3)) i (sample (i 0)) rfl

/-- The reference's frame. -/
theorem frame_reference : Cert.quiescent_Reference7Ideal := by
  intro m g _
  exact (θ_run Cert.Reference7Ideal.defs _ _).mono (fun r h => ⟨fun c => (h c).2, sem_eq_zero_of_no_sems (by decide) _⟩)
    (Cert.Reference7Ideal.Value.run m g)

end Cert.Proof.Norm

end
-- ==== Proof.Router.Payload.lean ====
/- The second norm and the router: the entries of the normed tokens and of the experts' affinities, in the kernel's
   payloads and in the reference's terms, and what makes both finite. -/
module

public import proofs.«01_k».proof.Defs
public import proofs.«01_k».proof.Proof.Norm.Value
public import proofs.«01_k».proof.Proof.Gen.Kernel8Ideal.Value
public import proofs.«01_k».proof.Proof.Gen.Reference8Ideal.Run
public import Idealize.ShloMosaic.Lib.Pointwise
public import Idealize.ShloMosaic.Lib.ReduceAll
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.Router

open Cert.Proof.Norm (moved)

/-- A number that is no infinity. -/
def Finite (x : EReal) : Prop := ∃ r : ℝ, x = (r : EReal)

/-- A number of finite magnitude is no infinity. -/
theorem finite_of_abs (x : EReal) (h : max x (-x) < ⊤) : Finite x := by
  induction x using EReal.rec with
  | bot => exact absurd h (by simp)
  | coe a => exact ⟨a, rfl⟩
  | top => exact absurd h (by simp)

theorem Finite.mul {x y : EReal} (hx : Finite x) (hy : Finite y) : Finite (x * y) := by
  obtain ⟨a, rfl⟩ := hx; obtain ⟨b, rfl⟩ := hy; exact ⟨a * b, (EReal.coe_mul a b).symm⟩

theorem Finite.add {x y : EReal} (hx : Finite x) (hy : Finite y) : Finite (x + y) := by
  obtain ⟨a, rfl⟩ := hx; obtain ⟨b, rfl⟩ := hy; exact ⟨a + b, (EReal.coe_add a b).symm⟩

theorem Finite.sub_self {x : EReal} (hx : Finite x) : x - x = 0 := by
  obtain ⟨a, rfl⟩ := hx; rw [← EReal.coe_sub, _root_.sub_self]; rfl

/-- The width, as a number. -/
theorem width_eq : Ideal.ofBits .f32 0x45800000#32 = ((4096 : ℝ) : EReal) := by
  simp [Ideal.ofBits, Ideal.ieee, -EReal.coe_mul]; norm_num

/-- The number added under the root is positive. -/
theorem eps_pos : ∃ e : ℝ, 0 < e ∧ Ideal.ofBits .f32 0x358637BD#32 = (e : EReal) := by
  refine ⟨_, ?_, by simp [Ideal.ofBits, Ideal.ieee, -EReal.coe_mul]; rfl⟩
  norm_num

theorem square_nonneg (x : EReal) : 0 ≤ x * x := by
  induction x using EReal.rec with
  | bot => simp
  | coe a => rw [← EReal.coe_mul]; exact_mod_cast mul_self_nonneg a
  | top => simp

/-- A row's entry over the root of its mean square is finite, whatever the row. -/
theorem normed_finite (row : Fin 4096 → EReal) (d : Fin 4096) :
    Finite (row d * Ideal.rsqrt (Ideal.div (∑ k, row k * row k) (Ideal.ofBits .f32 0x45800000#32) + Ideal.ofBits .f32 0x358637BD#32)) := by
  obtain ⟨e, he, ee⟩ := eps_pos
  rw [width_eq, ee, Ideal.div_coe (by norm_num)]
  have h0 : 0 ≤ ∑ k, row k * row k := Finset.sum_nonneg fun k _ => square_nonneg _
  have h1 : row d * row d ≤ ∑ k, row k * row k := Finset.single_le_sum (f := fun k => row k * row k) (fun k _ => square_nonneg _) (Finset.mem_univ d)
  generalize (∑ k, row k * row k) = q at h0 h1
  generalize row d = x at h1
  induction q using EReal.rec with
  | bot => exact absurd h0 (by simp)
  | top =>
    rw [EReal.top_mul_coe_of_pos (by norm_num), EReal.top_add_coe, Ideal.rsqrt_top, mul_zero]
    exact ⟨0, rfl⟩
  | coe s =>
    have hs : 0 ≤ s := by exact_mod_cast h0
    have hp : 0 < s * (1 / 4096) + e := by positivity
    rw [← EReal.coe_mul, ← EReal.coe_add, Ideal.rsqrt_coe, if_neg (not_lt.2 hp.le), if_neg hp.ne']
    refine Finite.mul ?_ ⟨_, rfl⟩
    induction x using EReal.rec with
    | bot => exact absurd h1 (by simp)
    | coe a => exact ⟨a, rfl⟩
    | top => exact absurd h1 (by simp)

/-- So a normed and moved entry is finite when the gain, the scale and the shift are. -/
theorem moved_finite (row : Fin 4096 → EReal) (g a b : EReal) (d : Fin 4096) (hg : Finite g) (ha : Finite a) (hb : Finite b) :
    Finite (moved row g a b d) := by
  unfold moved
  exact (((normed_finite row d).mul hg).mul (Finite.add ⟨1, rfl⟩ ha)).add hb

/-- The three products of a finite token's and a finite expert's halves are their product. -/
theorem halves (h w : Fin 4096 → EReal) (hh : ∀ k, Finite (h k)) (hw : ∀ k, Finite (w k)) :
    (∑ k, w k * h k) + ((∑ k, w k * (h k - h k)) + ∑ k, (w k - w k) * h k) = ∑ k, h k * w k := by
  rw [Finset.sum_eq_zero (f := fun k => w k * (h k - h k)) fun k _ => by rw [(hh k).sub_self, mul_zero],
    Finset.sum_eq_zero (f := fun k => (w k - w k) * h k) fun k _ => by rw [(hw k).sub_self, zero_mul], add_zero, add_zero]
  exact Finset.sum_congr rfl fun k _ => mul_comm _ _

/-- The softmax of sixteen numbers. -/
def soft (L : Fin 16 → EReal) (e : Fin 16) : EReal :=
  Ideal.div (Ideal.exp (L e - Finset.univ.fold max (Ideal.ofBits .f32 0xFF800000#32) L))
    (∑ f, Ideal.exp (L f - Finset.univ.fold max (Ideal.ofBits .f32 0xFF800000#32) L))

/-- The least of all numbers adds nothing to a greatest. -/
theorem least_max (x : EReal) : max (Ideal.ofBits .f32 0xFF800000#32) x = x := by
  rw [show Ideal.ofBits .f32 0xFF800000#32 = ⊥ by simp [Ideal.ofBits, Ideal.ieee]]
  exact max_bot_left x

namespace Plain

open Cert.Reference8Ideal Cert.Reference8Ideal.Gen Cert.Reference8Ideal.Value

/-- The reference's normed tokens, by sample and position. -/
def tokens (x : FVec Ideal S8192x4096 .f32) (g : FVec Ideal S1x4096 .f32) (a b : FVec Ideal S4x1x4096 .f32) : FVec Ideal S4x2048x4096 .f32 :=
  addf (mulf (mulf (mulf (shapeCast S4x2048x4096 x shapeCasts_S8192x4096_S4x2048x4096)
    (broadcastInDim S4x2048x4096 ![0, 1, 2] bcast_S4x2048x1_S4x2048x4096_0_1_2
      (Host.rsqrt (addf (Host.divf (broadcastInDim S4x2048x1 ![0, 1] bcast_S4x2048_S4x2048x1_0_1
          (Host.reduceAdd (mulf (shapeCast S4x2048x4096 x shapeCasts_S8192x4096_S4x2048x4096) (shapeCast S4x2048x4096 x shapeCasts_S8192x4096_S4x2048x4096))
            (constant S_ .f32 0x00000000#32) reducesTo_S4x2048x4096_S4x2048_d2 h_S_))
          (broadcastInDim S4x2048x1 ![] bcast_S_S4x2048x1 (constant S_ .f32 0x45800000#32)))
        (broadcastInDim S4x2048x1 ![] bcast_S_S4x2048x1 (constant S_ .f32 0x358637BD#32))))))
    (broadcastInDim S4x2048x4096 ![0, 1, 2] bcast_S1x1x4096_S4x2048x4096_0_1_2 (broadcastInDim S1x1x4096 ![1, 2] bcast_S1x4096_S1x1x4096_1_2 g)))
    (broadcastInDim S4x2048x4096 ![0, 1, 2] bcast_S4x1x4096_S4x2048x4096_0_1_2 (addf (broadcastInDim S4x1x4096 ![] bcast_S_S4x1x4096 (constant S_ .f32 0x3F800000#32)) a)))
    (broadcastInDim S4x2048x4096 ![0, 1, 2] bcast_S4x1x4096_S4x2048x4096_0_1_2 b)

/-- An entry of them. -/
theorem tokens_at (x : FVec Ideal S8192x4096 .f32) (g : FVec Ideal S1x4096 .f32) (a b : FVec Ideal S4x1x4096 .f32)
    (s : Fin 4) (r : Fin 2048) (d : Fin 4096) (n : Fin 8192) (hn : n.val = 2048 * s.val + r.val) :
    tokens x g a b (ix3 s r d)
      = moved (fun k => x (ix2 n k)) (g (ix2 (0 : Fin 1) d)) (a (ix3 s (0 : Fin 1) d)) (b (ix3 s (0 : Fin 1) d)) d := by
  have hl : s.val * 2048 + r.val < 8192 := by have := s.isLt; have := r.isLt; omega
  obtain rfl : n = ⟨s.val * 2048 + r.val, hl⟩ := Fin.ext (by show n.val = s.val * 2048 + r.val; omega)
  unfold tokens moved
  pointwise

/-- The reference's affinities of such tokens. -/
def affinity (h : FVec Ideal S4x2048x4096 .f32) (w : FVec Ideal S16x4096 .f32) : FVec Ideal S4x16x2048 .f32 :=
  let l : FVec Ideal S4x2048x16 .f32 := Host.dotGeneral dot_S4x2048x4096_S4096x16_S4x2048x16_2_0_01_1_n_n none h (transpose S4096x16 [1, 0] w transposes_S16x4096_S4096x16_1_0)
  let e : FVec Ideal S4x2048x16 .f32 := Host.exp (subf l (broadcastInDim S4x2048x16 ![0, 1, 2] bcast_S4x2048x1_S4x2048x16_0_1_2
    (broadcastInDim S4x2048x1 ![0, 1] bcast_S4x2048_S4x2048x1_0_1 (maximumf (broadcastInDim S4x2048 ![] bcast_S_S4x2048 (constant S_ .f32 0xFF800000#32))
      (Host.reduce FloatOps.maximumf l (constant S_ .f32 0xFF800000#32) reducesTo_S4x2048x16_S4x2048_d2 h_S_)))))
  transpose S4x16x2048 [0, 2, 1] (Host.divf e (broadcastInDim S4x2048x16 ![0, 1, 2] bcast_S4x2048x1_S4x2048x16_0_1_2
    (broadcastInDim S4x2048x1 ![0, 1] bcast_S4x2048_S4x2048x1_0_1
      (Host.reduceAdd e (constant S_ .f32 0x00000000#32) reducesTo_S4x2048x16_S4x2048_d2 h_S_)))) transposes_S4x2048x16_S4x16x2048_0_2_1

/-- The reference's affinities are those of its tokens. -/
theorem affinity_eq (m : (ℓ : Loc nD τ sig) → Buf (Elt Ideal) ℓ) (c : Dev nD) :
    res_main_v34 m c = affinity (tokens (m (c.tc.loc main_arg0)) (m (c.tc.loc main_arg1)) (m (c.tc.loc main_arg2)) (m (c.tc.loc main_arg3)))
      (m (c.tc.loc main_arg4)) := by
  unfold res_main_v34 affinity tokens
  rfl

/-- An entry of them. -/
theorem affinity_at (h : FVec Ideal S4x2048x4096 .f32) (w : FVec Ideal S16x4096 .f32) (s : Fin 4) (e : Fin 16) (r : Fin 2048) :
    affinity h w (ix3 s e r) = soft (fun f => ∑ k : Fin 4096, h (ix3 s r k) * w (ix2 f k)) e := by
  unfold affinity soft
  pointwise
  simp only [least_max]

end Plain

open Cert.Kernel8Ideal Cert.Kernel8Ideal.Gen Cert.Kernel8Ideal.Value

/-- An entry of the normed tokens. -/
theorem tokens_pay (x : FVec Ideal S256x4096 .f32) (g : FVec Ideal S1x4096 .f32) (a b : FVec Ideal S1x1x4096 .f32) (r : Fin 256) (d : Fin 4096) :
    k0_pay2 (F := Ideal) x g a b (ix2 r d)
      = moved (fun k => x (ix2 r k)) (g (ix2 (0 : Fin 1) d)) (a (ix3 (0 : Fin 1) (0 : Fin 1) d)) (b (ix3 (0 : Fin 1) (0 : Fin 1) d)) d := by
  unfold moved
  pointwise [k0_pay2]

/-- An entry of the affinities: the softmax of the three products' sums. -/
theorem affinity_pay (x : FVec Ideal S256x4096 .f32) (g : FVec Ideal S1x4096 .f32) (a b : FVec Ideal S1x1x4096 .f32) (w : FVec Ideal S16x4096 .f32)
    (e : Fin 16) (r : Fin 256) :
    k0_pay1 (F := Ideal) (k0_pay5 x g a b) (k0_pay7 w) (k0_pay8 x g a b w) (k0_pay9 x g a b w) (ix3 (0 : Fin 1) e r)
      = soft (fun f => (∑ k : Fin 4096, w (ix2 f k) * k0_pay2 (F := Ideal) x g a b (ix2 r k))
          + ((∑ k : Fin 4096, w (ix2 f k) * (k0_pay2 (F := Ideal) x g a b (ix2 r k) - k0_pay2 (F := Ideal) x g a b (ix2 r k)))
            + ∑ k : Fin 4096, (w (ix2 f k) - w (ix2 f k)) * k0_pay2 (F := Ideal) x g a b (ix2 r k))) e := by
  unfold soft
  pointwise [k0_pay1, k0_pay5, k0_pay7, k0_pay8, k0_pay9, k0_pay6, k0_pay3, k0_pay4]

/-- The precondition's shape relations. -/
instance bounds : Cert.Pre_finite8.Facts where
  bcast_S_S1x4096 := by decide
  reducesTo_S1x4096_S_d0_1 := by decide
  h_S_ := by decide
  bcast_S_S4x1x4096 := by decide
  reducesTo_S4x1x4096_S_d0_1_2 := by decide
  bcast_S_S16x4096 := by decide
  reducesTo_S16x4096_S_d0_1 := by decide

/-- What the bound is. -/
theorem bound_eq : Ideal.ofBits .f32 0x7F800000#32 = ⊤ := by simp [Ideal.ofBits, Ideal.ieee]

/-- A magnitude the predicate finds below the bound. -/
theorem finite_of_bit (x : EReal) (h : BitVec.ofBool (decide (max x (-x) < Ideal.ofBits .f32 0x7F800000#32)) = 1#1) : Finite x := by
  rw [bound_eq] at h
  refine finite_of_abs x ?_
  by_contra hn
  rw [decide_eq_false hn] at h
  exact absurd h (by decide)

/-- What the precondition says: the gain, the scale, the shift and the experts' rows are finite. -/
theorem finite_args (x : FVec Ideal Cert.Pre_finite8.S8192x4096 .f32) (g : FVec Ideal Cert.Pre_finite8.S1x4096 .f32)
    (a b : FVec Ideal Cert.Pre_finite8.S4x1x4096 .f32) (w : FVec Ideal Cert.Pre_finite8.S16x4096 .f32)
    (h : Cert.Pre_finite8.fn (F := Ideal) x g a b w = fun _ => 1#1) :
    (∀ i, Finite (g i)) ∧ (∀ i, Finite (a i)) ∧ (∀ i, Finite (b i)) ∧ ∀ i, Finite (w i) := by
  have h0 := congrFun h (fun a => nomatch a)
  dsimp only [Cert.Pre_finite8.fn, Cert.Pre_finite8.fn_part1] at h0
  have : Subsingleton Cert.Pre_finite8.S_.Idx := ⟨fun a b => funext fun k => nomatch k⟩
  obtain ⟨h1, hw⟩ := IntOp.andi_eq_one.1 (h0 : IntOp.andi _ _ = 1#1)
  obtain ⟨h2, hb⟩ := IntOp.andi_eq_one.1 (h1 : IntOp.andi _ _ = 1#1)
  obtain ⟨hg, ha⟩ := IntOp.andi_eq_one.1 (h2 : IntOp.andi _ _ = 1#1)
  refine ⟨fun i => ?_, fun i => ?_, fun i => ?_, fun i => ?_⟩
  · have := Host.reduce_andi_all _ _ _ _ _ hg i
    pointwise at this
    exact finite_of_bit _ this
  · have := Host.reduce_andi_all _ _ _ _ _ ha i
    pointwise at this
    exact finite_of_bit _ this
  · have := Host.reduce_andi_all _ _ _ _ _ hb i
    pointwise at this
    exact finite_of_bit _ this
  · have := Host.reduce_andi_all _ _ _ _ _ hw i
    pointwise at this
    exact finite_of_bit _ this

end Cert.Proof.Router

end
-- ==== Proof.Router.Value.lean ====
/- The second norm and the router: each token normed and moved, and for each sample and expert the softmax over the experts
   of the tokens' products with the experts' rows. -/
module

public import proofs.«01_k».proof.Defs
public import proofs.«01_k».proof.Proof.Router.Payload
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.Proof.Router

open Cert.Proof.Norm (moved sample)

open Cert.Kernel8Ideal Cert.Kernel8Ideal.Gen Cert.Kernel8Ideal.Value

variable {F : FTy → Type} [FloatOps F]
variable (m : (ℓ : Loc nD τ sig) → Buf (Elt F) ℓ)

theorem origin2 : (![0, 0] : Fin 2 → Nat) = fun _ => 0 := funext fun a => by fin_cases a <;> rfl
theorem origin3 : (![0, 0, 0] : Fin 3 → Nat) = fun _ => 0 := funext fun a => by fin_cases a <;> rfl

/-- What a point leaves in the tokens' tile. -/
theorem tokens_tile (x : Vec F S256x4096 .f32) (g : Vec F S1x4096 .f32) (a b : Vec F S1x1x4096 .f32) (w : Vec F S16x4096 .f32) :
    out0_5 x g a b w = k0_pay2 x g a b := by
  unfold out0_5
  rw [show View.ld x r0_0 = x from View.ld_unit_zero (S := S256x4096) origin2 _ x,
    show View.ld g r0_1 = g from View.ld_unit_zero (S := S1x4096) origin2 _ g,
    show View.ld a r0_2 = a from View.ld_unit_zero (S := S1x1x4096) origin3 _ a,
    show View.ld b r0_2 = b from View.ld_unit_zero (S := S1x1x4096) origin3 _ b]
  unfold r0_0
  rw [View.canon_unit_zero origin2]

/-- What a point leaves in the affinities' tile. -/
theorem affinity_tile (x : Vec F S256x4096 .f32) (g : Vec F S1x4096 .f32) (a b : Vec F S1x1x4096 .f32) (w : Vec F S16x4096 .f32) :
    out0_6 x g a b w = k0_pay1 (k0_pay5 x g a b) (k0_pay7 w) (k0_pay8 x g a b w) (k0_pay9 x g a b w) := by
  unfold out0_6
  rw [show View.ld x r0_0 = x from View.ld_unit_zero (S := S256x4096) origin2 _ x,
    show View.ld g r0_1 = g from View.ld_unit_zero (S := S1x4096) origin2 _ g,
    show View.ld a r0_2 = a from View.ld_unit_zero (S := S1x1x4096) origin3 _ a,
    show View.ld b r0_2 = b from View.ld_unit_zero (S := S1x1x4096) origin3 _ b,
    show View.ld w r0_3 = w from View.ld_unit_zero (S := S16x4096) origin2 _ w]
  unfold r0_4
  rw [View.canon_unit_zero origin3]

/-- The tiles' places: point `t` is the tile `t` of all tokens, of sample `t / 8`. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 3) = t.val / 8 ∧ win0_6.index t (1 : Fin 3) = 0 ∧ win0_6.index t (2 : Fin 3) = t.val % 8)
    ∧ (cfg0.win 5).flush t = true ∧ (cfg0.win 6).flush t = true :=
  (by decide +kernel : ∀ t : Fin grid0.N, _)

/-- The tokens point `t` reads. -/
def tokens (c : Dev nD) (t : Fin cfg0.N) : Vec F S256x4096 .f32 := iblk m c 0 t

/-- The gain it reads. -/
def gain (c : Dev nD) (t : Fin cfg0.N) : Vec F S1x4096 .f32 := iblk m c 1 t

/-- Its sample's scale. -/
def scale (c : Dev nD) (t : Fin cfg0.N) : Vec F S1x1x4096 .f32 := iblk m c 2 t

/-- Its sample's shift. -/
def shift (c : Dev nD) (t : Fin cfg0.N) : Vec F S1x1x4096 .f32 := iblk m c 3 t

/-- The experts' rows it reads. -/
def experts (c : Dev nD) (t : Fin cfg0.N) : Vec F S16x4096 .f32 := iblk m c 4 t

/-- A token's entry. -/
theorem tokens_at (c : Dev nD) (t : Fin cfg0.N) (r : Fin 256) (d : Fin 4096) (n : Fin 8192) (hn : n.val = 256 * t.val + r.val) :
    tokens m c t (ix2 r d) = (m ((c : Thread nD τ).loc main_arg0) : Vec F S8192x4096 .f32) (ix2 n d) := by
  obtain ⟨⟨e0, e1⟩, -⟩ := places t
  unfold tokens iblk
  rw [View.read_apply]
  show V m c main_arg0 _ = m (c.tc.loc main_arg0) _
  rw [V_main_arg0]
  congr 1
  funext a
  apply Fin.ext
  match a with
  | ⟨0, _⟩ => show win0_0.index t 0 * 256 + 1 * r.val = n.val; rw [e0]; omega
  | ⟨1, _⟩ => show win0_0.index t 1 * 4096 + 1 * d.val = d.val; rw [e1]; omega

/-- The gain's entry. -/
theorem gain_at (c : Dev nD) (t : Fin cfg0.N) (d : Fin 4096) :
    gain m c t (ix2 (0 : Fin 1) d) = (m ((c : Thread nD τ).loc main_arg1) : Vec F S1x4096 .f32) (ix2 (0 : Fin 1) d) := by
  obtain ⟨-, ⟨e0, e1⟩, -⟩ := places t
  unfold gain iblk
  rw [View.read_apply]
  show V m c main_arg1 _ = m (c.tc.loc main_arg1) _
  rw [V_main_arg1]
  congr 1
  funext a
  apply Fin.ext
  match a with
  | ⟨0, _⟩ => show win0_1.index t 0 * 1 + 1 * 0 = 0; rw [e0]
  | ⟨1, _⟩ => show win0_1.index t 1 * 4096 + 1 * d.val = d.val; rw [e1]; omega

/-- The scale's entry. -/
theorem scale_at (c : Dev nD) (t : Fin cfg0.N) (d : Fin 4096) (b : Fin 4) (hb : b.val = t.val / 8) :
    scale m c t (ix3 (0 : Fin 1) (0 : Fin 1) d) = (m ((c : Thread nD τ).loc main_arg2) : Vec F S4x1x4096 .f32) (ix3 b (0 : Fin 1) d) := by
  obtain ⟨-, -, ⟨e0, e1, e2⟩, -⟩ := places t
  unfold scale iblk
  rw [View.read_apply]
  show V m c main_arg2 _ = m (c.tc.loc main_arg2) _
  rw [V_main_arg2]
  congr 1
  funext a
  apply Fin.ext
  match a with
  | ⟨0, _⟩ => show win0_2.index t 0 * 1 + 1 * 0 = b.val; rw [e0]; omega
  | ⟨1, _⟩ => show win0_2.index t 1 * 1 + 1 * 0 = 0; rw [e1]
  | ⟨2, _⟩ => show win0_2.index t 2 * 4096 + 1 * d.val = d.val; rw [e2]; omega

/-- The shift's entry. -/
theorem shift_at (c : Dev nD) (t : Fin cfg0.N) (d : Fin 4096) (b : Fin 4) (hb : b.val = t.val / 8) :
    shift m c t (ix3 (0 : Fin 1) (0 : Fin 1) d) = (m ((c : Thread nD τ).loc main_arg3) : Vec F S4x1x4096 .f32) (ix3 b (0 : Fin 1) d) := by
  obtain ⟨-, -, -, ⟨e0, e1, e2⟩, -⟩ := places t
  unfold shift iblk
  rw [View.read_apply]
  show V m c main_arg3 _ = m (c.tc.loc main_arg3) _
  rw [V_main_arg3]
  congr 1
  funext a
  apply Fin.ext
  match a with
  | ⟨0, _⟩ => show win0_3.index t 0 * 1 + 1 * 0 = b.val; rw [e0]; omega
  | ⟨1, _⟩ => show win0_3.index t 1 * 1 + 1 * 0 = 0; rw [e1]
  | ⟨2, _⟩ => show win0_3.index t 2 * 4096 + 1 * d.val = d.val; rw [e2]; omega

/-- An expert's entry. -/
theorem experts_at (c : Dev nD) (t : Fin cfg0.N) (e : Fin 16) (k : Fin 4096) :
    experts m c t (ix2 e k) = (m ((c : Thread nD τ).loc main_arg4) : Vec F S16x4096 .f32) (ix2 e k) := by
  obtain ⟨-, -, -, -, ⟨e0, e1⟩, -⟩ := places t
  unfold experts iblk
  rw [View.read_apply]
  show V m c main_arg4 _ = m (c.tc.loc main_arg4) _
  rw [V_main_arg4]
  congr 1
  funext a
  apply Fin.ext
  match a with
  | ⟨0, _⟩ => show win0_4.index t 0 * 16 + 1 * e.val = e.val; rw [e0]; omega
  | ⟨1, _⟩ => show win0_4.index t 1 * 4096 + 1 * k.val = k.val; rw [e1]; omega

/-- A normed and moved entry, from the arguments. -/
def entry (x : FVec Ideal S8192x4096 .f32) (g : FVec Ideal S1x4096 .f32) (a b : FVec Ideal S4x1x4096 .f32) (n : Fin 8192) (d : Fin 4096) : EReal :=
  moved (fun k => x (ix2 n k)) (g (ix2 (0 : Fin 1) d)) (a (ix3 (sample n) (0 : Fin 1) d)) (b (ix3 (sample n) (0 : Fin 1) d)) d

/-- A token's products with the experts' rows. -/
def logits (x : FVec Ideal S8192x4096 .f32) (g : FVec Ideal S1x4096 .f32) (a b : FVec Ideal S4x1x4096 .f32) (w : FVec Ideal S16x4096 .f32)
    (n : Fin 8192) (f : Fin 16) : EReal := ∑ k : Fin 4096, entry x g a b n k * w (ix2 f k)

/-- The token at a sample's position. -/
def token (s : Fin 4) (r : Fin 2048) : Fin 8192 := ⟨2048 * s.val + r.val, by omega⟩

/-- The normed tokens, from the arguments. -/
def normed (x : FVec Ideal S8192x4096 .f32) (g : FVec Ideal S1x4096 .f32) (a b : FVec Ideal S4x1x4096 .f32) : FVec Ideal S8192x4096 .f32 := fun i =>
  entry x g a b (i 0) (i 1)

/-- The affinities, from the arguments. -/
def routed (x : FVec Ideal S8192x4096 .f32) (g : FVec Ideal S1x4096 .f32) (a b : FVec Ideal S4x1x4096 .f32) (w : FVec Ideal S16x4096 .f32) :
    FVec Ideal S4x16x2048 .f32 := fun i => soft (logits x g a b w (token (i 0) (i 2))) (i 1)

/-- The normed tokens of the kernel's arguments. -/
def result (m : (ℓ : Loc nD τ sig) → Buf (Elt Ideal) ℓ) (c : Dev nD) : FVec Ideal S8192x4096 .f32 :=
  normed (m ((c : Thread nD τ).loc main_arg0)) (m ((c : Thread nD τ).loc main_arg1)) (m ((c : Thread nD τ).loc main_arg2))
    (m ((c : Thread nD τ).loc main_arg3))

/-- The affinities of the kernel's arguments. -/
def chosen (m : (ℓ : Loc nD τ sig) → Buf (Elt Ideal) ℓ) (c : Dev nD) : FVec Ideal S4x16x2048 .f32 :=
  routed (m ((c : Thread nD τ).loc main_arg0)) (m ((c : Thread nD τ).loc main_arg1)) (m ((c : Thread nD τ).loc main_arg2))
    (m ((c : Thread nD τ).loc main_arg3)) (m ((c : Thread nD τ).loc main_arg4))

/-- What a point's tokens are. -/
theorem entry_at (m : (ℓ : Loc nD τ sig) → Buf (Elt Ideal) ℓ) (c : Dev nD) (t : Fin cfg0.N) (r : Fin 256) (d : Fin 4096)
    (n : Fin 8192) (hn : n.val = 256 * t.val + r.val) :
    k0_pay2 (F := Ideal) (tokens m c t) (gain m c t) (scale m c t) (shift m c t) (ix2 r d)
      = entry (m ((c : Thread nD τ).loc main_arg0)) (m ((c : Thread nD τ).loc main_arg1)) (m ((c : Thread nD τ).loc main_arg2))
        (m ((c : Thread nD τ).loc main_arg3)) n d := by
  have hb : (sample n).val = t.val / 8 := by show n.val / 2048 = _; omega
  rw [tokens_pay, gain_at, scale_at m c t d _ hb, shift_at m c t d _ hb]
  unfold entry
  refine (fun {p q : Fin 4096 → EReal} {g a b : EReal} (h : p = q) => (congrArg (fun p => moved p g a b d) h : moved p g a b d = moved q g a b d)) ?_
  funext k
  exact tokens_at m c t r k n hn

/-- The gain, the scale, the shift and the experts' rows are finite. -/
def Bounded (m : (ℓ : Loc nD τ sig) → Buf (Elt Ideal) ℓ) (c : Dev nD) : Prop :=
  (∀ i, Finite ((m ((c : Thread nD τ).loc main_arg1) : FVec Ideal S1x4096 .f32) i))
    ∧ (∀ i, Finite ((m ((c : Thread nD τ).loc main_arg2) : FVec Ideal S4x1x4096 .f32) i))
    ∧ (∀ i, Finite ((m ((c : Thread nD τ).loc main_arg3) : FVec Ideal S4x1x4096 .f32) i))
    ∧ ∀ i, Finite ((m ((c : Thread nD τ).loc main_arg4) : FVec Ideal S16x4096 .f32) i)

/-- What a point's affinities are. -/
theorem affinity_at (m : (ℓ : Loc nD τ sig) → Buf (Elt Ideal) ℓ) (c : Dev nD) (hm : Bounded m c) (t : Fin cfg0.N) (e : Fin 16) (r : Fin 256)
    (i : S4x16x2048.Idx) (h0 : (i 0).val = t.val / 8) (h1 : i 1 = e) (h2 : (i 2).val = 256 * (t.val % 8) + r.val) :
    k0_pay1 (F := Ideal) (k0_pay5 (tokens m c t) (gain m c t) (scale m c t) (shift m c t)) (k0_pay7 (experts m c t))
      (k0_pay8 (tokens m c t) (gain m c t) (scale m c t) (shift m c t) (experts m c t))
      (k0_pay9 (tokens m c t) (gain m c t) (scale m c t) (shift m c t) (experts m c t)) (ix3 (0 : Fin 1) e r) = chosen m c i := by
  have hn : (token (i 0) (i 2)).val = 256 * t.val + r.val := by show 2048 * (i 0).val + (i 2).val = _; omega
  rw [affinity_pay]
  unfold chosen routed
  rw [h1]
  refine congrArg (fun L => soft L e) ?_
  funext f
  simp only [entry_at m c t r _ _ hn, experts_at]
  unfold logits
  refine halves (entry _ _ _ _ _) (fun k => (m ((c : Thread nD τ).loc main_arg4) : FVec Ideal S16x4096 .f32) (ix2 f k)) (fun k => ?_) (fun k => hm.2.2.2 _)
  exact moved_finite _ _ _ _ _ (hm.1 _) (hm.2.1 _) (hm.2.2.1 _)

/-- What a point writes back to the tokens is its block of them. -/
theorem flushed_tokens (m : (ℓ : Loc nD τ sig) → Buf (Elt Ideal) ℓ) (c : Dev nD) (t : Fin cfg0.N) :
    (dats m 0 c).flushed 5 t = ((cfg0.win 5).blk t).view.read (Elt Ideal) (result m c) := by
  obtain ⟨-, -, -, -, -, ⟨e0, e1⟩, -⟩ := places t
  rw [flushed5, tokens_tile]
  funext y
  obtain ⟨r, d, rfl⟩ : ∃ (r : Fin 256) (d : Fin 4096), y = ix2 r d := ⟨y 0, y 1, by funext a; match a with | ⟨0, _⟩ => rfl | ⟨1, _⟩ => rfl⟩
  rw [View.read_apply]
  have hd : ((cfg0.win 5).blk t).view.emb (ix2 r d) (1 : Fin 2) = d := Fin.ext (by show win0_5.index t 1 * 4096 + 1 * d.val = d.val; rw [e1]; omega)
  refine (entry_at m c t r d (((cfg0.win 5).blk t).view.emb (ix2 r d) (0 : Fin 2))
    (by show win0_5.index t 0 * 256 + 1 * r.val = _; rw [e0]; omega)).trans ?_
  exact congrArg (entry _ _ _ _ _) hd.symm

/-- What a point writes back to the affinities is its block of them. -/
theorem flushed_affinity (m : (ℓ : Loc nD τ sig) → Buf (Elt Ideal) ℓ) (c : Dev nD) (hm : Bounded m c) (t : Fin cfg0.N) :
    (dats m 0 c).flushed 6 t = ((cfg0.win 6).blk t).view.read (Elt Ideal) (chosen m c) := by
  obtain ⟨-, -, -, -, -, -, ⟨e0, e1, e2⟩, -⟩ := places t
  rw [flushed6, affinity_tile]
  funext y
  obtain ⟨e, r, rfl⟩ : ∃ (e : Fin 16) (r : Fin 256), y = ix3 (0 : Fin 1) e r := ⟨y 1, y 2, by
    funext a
    match a with
    | ⟨0, _⟩ => exact Fin.ext (by have h : (y 0).val < 1 := (y 0).isLt; show (y 0).val = 0; omega)
    | ⟨1, _⟩ => rfl
    | ⟨2, _⟩ => rfl⟩
  rw [View.read_apply]
  exact affinity_at m c hm t e r (((cfg0.win 6).blk t).view.emb (ix3 (0 : Fin 1) e r))
    (by show win0_6.index t 0 * 1 + 1 * 0 = _; rw [e0]; omega)
    (Fin.ext (by show win0_6.index t 1 * 16 + 1 * e.val = e.val; rw [e1]; omega))
    (by show win0_6.index t 2 * 256 + 1 * r.val = _; rw [e2]; omega)

/-- Every token's entry lies in some point's block. -/
theorem covered_tokens (i : S8192x4096.Idx) :
    ∃ t : Fin cfg0.N, (cfg0.win 5).flush t = true ∧ i ∈ ((cfg0.win 5).blk t).view.set := by
  have hN : cfg0.N = 32 := N_0
  have h0 : (i 0).val < 8192 := (i 0).isLt
  have h1 : (i 1).val < 4096 := (i 1).isLt
  have ht : (i 0).val / 256 < cfg0.N := by omega
  obtain ⟨t, et⟩ : ∃ t : Fin cfg0.N, t.val = (i 0).val / 256 := ⟨⟨_, ht⟩, rfl⟩
  obtain ⟨-, -, -, -, -, ⟨e0, e1⟩, -, hf, -⟩ := places t
  refine ⟨t, hf, ?_⟩
  show i ∈ ((View.whole main_v0_0).slice (win0_5.rect t)).set
  rw [View.set_slice_whole, Rect.mem_set_unit]
  intro a
  match a with
  | ⟨0, _⟩ => show win0_5.index t 0 * 256 ≤ (i 0).val ∧ (i 0).val < win0_5.index t 0 * 256 + 256; rw [e0]; omega
  | ⟨1, _⟩ => show win0_5.index t 1 * 4096 ≤ (i 1).val ∧ (i 1).val < win0_5.index t 1 * 4096 + 4096; rw [e1]; omega

/-- Every affinity lies in some point's block. -/
theorem covered_affinity (i : S4x16x2048.Idx) :
    ∃ t : Fin cfg0.N, (cfg0.win 6).flush t = true ∧ i ∈ ((cfg0.win 6).blk t).view.set := by
  have hN : cfg0.N = 32 := N_0
  have h0 : (i 0).val < 4 := (i 0).isLt
  have h1 : (i 1).val < 16 := (i 1).isLt
  have h2 : (i 2).val < 2048 := (i 2).isLt
  have ht : 8 * (i 0).val + (i 2).val / 256 < cfg0.N := by omega
  obtain ⟨t, et⟩ : ∃ t : Fin cfg0.N, t.val = 8 * (i 0).val + (i 2).val / 256 := ⟨⟨_, ht⟩, rfl⟩
  obtain ⟨-, -, -, -, -, -, ⟨e0, e1, e2⟩, -, hf⟩ := places t
  refine ⟨t, hf, ?_⟩
  show i ∈ ((View.whole main_v0_1).slice (win0_6.rect t)).set
  rw [View.set_slice_whole, Rect.mem_set_unit]
  intro a
  match a with
  | ⟨0, _⟩ => show win0_6.index t 0 * 1 ≤ (i 0).val ∧ (i 0).val < win0_6.index t 0 * 1 + 1; rw [e0]; omega
  | ⟨1, _⟩ => show win0_6.index t 1 * 16 ≤ (i 1).val ∧ (i 1).val < win0_6.index t 1 * 16 + 16; rw [e1]; omega
  | ⟨2, _⟩ => show win0_6.index t 2 * 256 ≤ (i 2).val ∧ (i 2).val < win0_6.index t 2 * 256 + 256; rw [e2]; omega

/-- The tokens after the run. -/
theorem final_tokens (m : (ℓ : Loc nD τ sig) → Buf (Elt Ideal) ℓ) (c : Dev nD) : (dats m 0 c).arrAt 5 cfg0.N = result m c :=
  (dats m 0 c).arrAt_eq_of_cover 5 _ (fun t _ => flushed_tokens m c t) covered_tokens

/-- The affinities after the run. -/
theorem final_affinity (m : (ℓ : Loc nD τ sig) → Buf (Elt Ideal) ℓ) (c : Dev nD) (hm : Bounded m c) : (dats m 0 c).arrAt 6 cfg0.N = chosen m c :=
  (dats m 0 c).arrAt_eq_of_cover 6 _ (fun t _ => flushed_affinity m c hm t) covered_affinity

/-- The reference's tokens are the same. -/
theorem plain_tokens (x : FVec Ideal S8192x4096 .f32) (g : FVec Ideal S1x4096 .f32) (a b : FVec Ideal S4x1x4096 .f32) (s : Fin 4) (r : Fin 2048)
    (d : Fin 4096) : Plain.tokens x g a b (ix3 s r d) = entry x g a b (token s r) d := by
  have hs : sample (token s r) = s := Fin.ext (by show (2048 * s.val + r.val) / 2048 = s.val; omega)
  rw [Plain.tokens_at x g a b s r d (token s r) rfl]
  unfold entry
  rw [hs]

/-- Laid back out as rows. -/
theorem plain_rows (x : FVec Ideal S8192x4096 .f32) (g : FVec Ideal S1x4096 .f32) (a b : FVec Ideal S4x1x4096 .f32) :
    shapeCast S8192x4096 (Plain.tokens x g a b) Cert.Reference8Ideal.Facts₀.shapeCasts_S4x2048x4096_S8192x4096 = normed x g a b := by
  funext i
  obtain ⟨n, d, rfl⟩ : ∃ (n : Fin 8192) (d : Fin 4096), i = ix2 n d := ⟨i 0, i 1, by funext a; match a with | ⟨0, _⟩ => rfl | ⟨1, _⟩ => rfl⟩
  have hs : token (⟨n.val / 2048, by omega⟩ : Fin 4) (⟨n.val % 2048, by omega⟩ : Fin 2048) = n :=
    Fin.ext (by show 2048 * (n.val / 2048) + n.val % 2048 = n.val; omega)
  refine Eq.trans ?_ ((plain_tokens x g a b (⟨n.val / 2048, by omega⟩ : Fin 4) (⟨n.val % 2048, by omega⟩ : Fin 2048) d).trans (by rw [hs]; rfl))
  pointwise

/-- The reference's affinities are the same. -/
theorem plain_affinity (x : FVec Ideal S8192x4096 .f32) (g : FVec Ideal S1x4096 .f32) (a b : FVec Ideal S4x1x4096 .f32) (w : FVec Ideal S16x4096 .f32) :
    Plain.affinity (Plain.tokens x g a b) w = routed x g a b w := by
  funext i
  obtain ⟨s, e, r, rfl⟩ : ∃ (s : Fin 4) (e : Fin 16) (r : Fin 2048), i = ix3 s e r :=
    ⟨i 0, i 1, i 2, by funext a; match a with | ⟨0, _⟩ => rfl | ⟨1, _⟩ => rfl | ⟨2, _⟩ => rfl⟩
  rw [Plain.affinity_at]
  simp only [plain_tokens]
  rfl

/-- The claim. -/
theorem claim : Cert.algebraic_Kernel8Ideal_Reference8Ideal_pre_finite8 := by
  intro m g m' g' hpre hargs
  refine ⟨result m, chosen m, ?_, ?_⟩
  · exact (θ_run Cert.Kernel8Ideal.defs _ _).mono (fun r h c => ⟨(h c).1.trans (final_tokens m c),
      (h c).2.1.trans (final_affinity m c (finite_args _ _ _ _ _ (hpre c))), (h c).2.2⟩) (run_blocks m g)
  · refine (θ_run Cert.Reference8Ideal.defs _ _).mono (fun r h c => ⟨(h c).1.trans ?_, (h c).2.1.trans ?_, (h c).2.2⟩) (Cert.Reference8Ideal.Value.run m' g')
    · rw [(hargs c).1, (hargs c).2.1, (hargs c).2.2.1, (hargs c).2.2.2.1]
      exact plain_rows (m (c.tc.loc main_arg0)) (m (c.tc.loc main_arg1)) (m (c.tc.loc main_arg2)) (m (c.tc.loc main_arg3))
    · rw [Plain.affinity_eq, (hargs c).1, (hargs c).2.1, (hargs c).2.2.1, (hargs c).2.2.2.1, (hargs c).2.2.2.2]
      exact plain_affinity (m (c.tc.loc main_arg0)) (m (c.tc.loc main_arg1)) (m (c.tc.loc main_arg2)) (m (c.tc.loc main_arg3)) (m (c.tc.loc main_arg4))

/-- The reference's frame. -/
theorem frame_reference : Cert.quiescent_Reference8Ideal := by
  intro m g _
  exact (θ_run Cert.Reference8Ideal.defs _ _).mono (fun r h => ⟨fun c => (h c).2.2, sem_eq_zero_of_no_sems (by decide) _⟩)
    (Cert.Reference8Ideal.Value.run m g)

end Cert.Proof.Router

end
-- ==== Proof.Ada.Value.lean ====
/- The modulation: every entry is the sum, over the width, of the conditioning through silu times a weight's entry, plus
   its column's bias. -/
module

public import proofs.«01_k».proof.Defs
public import proofs.«01_k».proof.Proof.Gen.Kernel9Ideal.Value
public import proofs.«01_k».proof.Proof.Gen.Reference9Ideal.Run
public import Idealize.ShloMosaic.Lib.Pointwise
public import Idealize.ShloMosaic.Lib.ReduceAll
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.Ada

/-- The precondition's shape relations. -/
instance bounds : Cert.Pre_finite9.Facts where
  bcast_S_S8x4096 := by decide
  reducesTo_S8x4096_S_d0_1 := by decide
  h_S_ := by decide

/-- What the bound is. -/
theorem bound_eq : Ideal.ofBits .f32 0x7F800000#32 = ⊤ := by simp [Ideal.ofBits, Ideal.ieee]

/-- What the precondition says of an entry. -/
theorem below (c : FVec Ideal Cert.Pre_finite9.S8x4096 .f32) (w : FVec Ideal Cert.Pre_finite9.S4096x24576 .f32) (b : FVec Ideal Cert.Pre_finite9.S1x24576 .f32)
    (h : Cert.Pre_finite9.fn (F := Ideal) c w b = fun _ => 1#1) (i : Cert.Pre_finite9.S8x4096.Idx) : (c i : EReal) < ⊤ := by
  have h0 := congrFun h (fun a => nomatch a)
  dsimp only [Cert.Pre_finite9.fn] at h0
  have : Subsingleton Cert.Pre_finite9.S_.Idx := ⟨fun a b => funext fun k => nomatch k⟩
  have h1 := Host.reduce_andi_all _ _ _ _ _ h0 i
  pointwise at h1
  rw [bound_eq] at h1
  by_contra hn
  rw [decide_eq_false hn] at h1
  exact absurd h1 (by decide)

/-- Every entry of the conditioning is below infinity. -/
def Below (c : FVec Ideal Cert.Kernel9Ideal.S8x4096 .f32) : Prop := ∀ i, (c i : EReal) < ⊤

/-- A number times its logistic. -/
def silu (x : EReal) : EReal := x * Ideal.logistic x

/-- Below infinity it is finite. -/
theorem silu_real (x : EReal) (h : x < ⊤) : ∃ r : ℝ, silu x = (r : EReal) := by
  unfold silu
  induction x using EReal.rec with
  | bot => exact ⟨0, by rw [Ideal.logistic_bot, mul_zero]; rfl⟩
  | coe a => exact ⟨a * (1 + Real.exp (-a))⁻¹, by rw [Ideal.logistic_coe]; exact (EReal.coe_mul _ _).symm⟩
  | top => exact absurd h (lt_irrefl _)

/-- Its second half is zero. -/
theorem silu_sub (x : EReal) (h : x < ⊤) : silu x - silu x = 0 := by
  obtain ⟨r, hr⟩ := silu_real x h
  rw [hr, ← EReal.coe_sub, sub_self]
  rfl

namespace Plain

open Cert.Reference9Ideal Cert.Reference9Ideal.Gen Cert.Reference9Ideal.Value

/-- The reference's composed term. -/
def composed (c : FVec Ideal S8x4096 .f32) (w : FVec Ideal S4096x24576 .f32) (b : FVec Ideal S1x24576 .f32) : FVec Ideal S8x24576 .f32 :=
  addf (Host.dotGeneral dot_S8x4096_S4096x24576_S8x24576_1_0_0_1_n_n none
      (mulf c (Host.divf (broadcastInDim S8x4096 ![] bcast_S_S8x4096 (constant S_ .f32 0x3F800000#32))
        (addf (broadcastInDim S8x4096 ![] bcast_S_S8x4096 (constant S_ .f32 0x3F800000#32)) (Host.exp (Host.negf c))))) w)
    (broadcastInDim S8x24576 ![0, 1] bcast_S1x24576_S8x24576_0_1 b)

/-- An entry of it. -/
theorem composed_at (c : FVec Ideal S8x4096 .f32) (w : FVec Ideal S4096x24576 .f32) (b : FVec Ideal S1x24576 .f32) (i : S8x24576.Idx) :
    composed c w b i = (∑ k : Fin 4096, silu (c (ix2 (i 0) k)) * w (ix2 k (i 1))) + b (ix2 (0 : Fin 1) (i 1)) := by
  unfold composed silu Ideal.logistic
  pointwise

end Plain

open Cert.Kernel9Ideal Cert.Kernel9Ideal.Gen Cert.Kernel9Ideal.Value

/-- A payload's entry: both halves of the conditioning through the weights, and the bias. -/
theorem pay_at (c : FVec Ideal S8x4096 .f32) (w : FVec Ideal S4096x512 .f32) (b : FVec Ideal S1x512 .f32) (r : Fin 8) (j : Fin 512) :
    k0_pay1 (F := Ideal) c w b (ix2 r j)
      = (∑ k : Fin 4096, silu (c (ix2 r k)) * w (ix2 k j)) + (∑ k : Fin 4096, (silu (c (ix2 r k)) - silu (c (ix2 r k))) * w (ix2 k j))
        + b (ix2 (0 : Fin 1) j) := by
  unfold silu
  pointwise [k0_pay1]

/-- With every entry of the conditioning below infinity the second half adds nothing. -/
theorem pay_eq (c : FVec Ideal S8x4096 .f32) (w : FVec Ideal S4096x512 .f32) (b : FVec Ideal S1x512 .f32) (r : Fin 8) (j : Fin 512)
    (h : ∀ k : Fin 4096, (c (ix2 r k) : EReal) < ⊤) :
    k0_pay1 (F := Ideal) c w b (ix2 r j) = (∑ k : Fin 4096, silu (c (ix2 r k)) * w (ix2 k j)) + b (ix2 (0 : Fin 1) j) := by
  have h0 : (∑ k : Fin 4096, (silu (c (ix2 r k)) - silu (c (ix2 r k))) * (w (ix2 k j) : EReal)) = 0 :=
    Finset.sum_eq_zero fun k _ => by rw [silu_sub _ (h k), zero_mul]
  refine (pay_at c w b r j).trans ?_
  exact (fun {p z q : EReal} (h : z = 0) => (by rw [h, add_zero] : p + z + q = p + q)) h0

theorem origin : (![0, 0] : Fin 2 → Nat) = fun _ => 0 := funext fun a => by fin_cases a <;> rfl

variable {F : FTy → Type} [FloatOps F]
variable (m : (ℓ : Loc nD τ sig) → Buf (Elt F) ℓ)

/-- What a point leaves in the result's tile is its payload of the tiles it reads. -/
theorem tile_eq (c : Vec F S8x4096 .f32) (w : Vec F S4096x512 .f32) (b : Vec F S1x512 .f32) : out0_3 c w b = k0_pay1 c w b := by
  unfold out0_3 r0_3
  rw [View.canon_unit_zero origin]
  rw [show View.ld c r0_0 = c from View.ld_unit_zero (S := S8x4096) origin _ c,
    show View.ld w r0_1 = w from View.ld_unit_zero (S := S4096x512) origin _ w,
    show View.ld b r0_2 = b from View.ld_unit_zero (S := S1x512) origin _ b]

/-- The tiles' places: point `t` is the column tile `t`. -/
theorem places : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (cfg0.win 3).flush t = true :=
  (by decide +kernel : ∀ t : Fin grid0.N, _)

/-- The conditioning point `t` reads. -/
def cond (c : Dev nD) (t : Fin cfg0.N) : Vec F S8x4096 .f32 := iblk m c 0 t

/-- The weight tile it reads. -/
def weights (c : Dev nD) (t : Fin cfg0.N) : Vec F S4096x512 .f32 := iblk m c 1 t

/-- The bias tile it reads. -/
def bias (c : Dev nD) (t : Fin cfg0.N) : Vec F S1x512 .f32 := iblk m c 2 t

/-- A conditioning entry. -/
theorem cond_at (c : Dev nD) (t : Fin cfg0.N) (r : Fin 8) (k : Fin 4096) :
    cond m c t (ix2 r k) = (m ((c : Thread nD τ).loc main_arg0) : Vec F S8x4096 .f32) (ix2 r k) := by
  obtain ⟨⟨e0, e1⟩, -⟩ := places t
  unfold cond iblk
  rw [View.read_apply]
  show V m c main_arg0 _ = m (c.tc.loc main_arg0) _
  rw [V_main_arg0]
  congr 1
  funext a
  apply Fin.ext
  match a with
  | ⟨0, _⟩ => show win0_0.index t 0 * 8 + 1 * r.val = r.val; rw [e0]; omega
  | ⟨1, _⟩ => show win0_0.index t 1 * 4096 + 1 * k.val = k.val; rw [e1]; omega

/-- A weight's entry. -/
theorem weights_at (c : Dev nD) (t : Fin cfg0.N) (k : Fin 4096) (j : Fin 512) (n : Fin 24576) (hn : n.val = 512 * t.val + j.val) :
    weights m c t (ix2 k j) = (m ((c : Thread nD τ).loc main_arg1) : Vec F S4096x24576 .f32) (ix2 k n) := by
  obtain ⟨-, ⟨e0, e1⟩, -⟩ := places t
  unfold weights iblk
  rw [View.read_apply]
  show V m c main_arg1 _ = m (c.tc.loc main_arg1) _
  rw [V_main_arg1]
  congr 1
  funext a
  apply Fin.ext
  match a with
  | ⟨0, _⟩ => show win0_1.index t 0 * 4096 + 1 * k.val = k.val; rw [e0]; omega
  | ⟨1, _⟩ => show win0_1.index t 1 * 512 + 1 * j.val = n.val; rw [e1]; omega

/-- A bias. -/
theorem bias_at (c : Dev nD) (t : Fin cfg0.N) (j : Fin 512) (n : Fin 24576) (hn : n.val = 512 * t.val + j.val) :
    bias m c t (ix2 (0 : Fin 1) j) = (m ((c : Thread nD τ).loc main_arg2) : Vec F S1x24576 .f32) (ix2 (0 : Fin 1) n) := by
  obtain ⟨-, -, ⟨e0, e1⟩, -⟩ := places t
  unfold bias iblk
  rw [View.read_apply]
  show V m c main_arg2 _ = m (c.tc.loc main_arg2) _
  rw [V_main_arg2]
  congr 1
  funext a
  apply Fin.ext
  match a with
  | ⟨0, _⟩ => show win0_2.index t 0 * 1 + 1 * 0 = 0; rw [e0]
  | ⟨1, _⟩ => show win0_2.index t 1 * 512 + 1 * j.val = n.val; rw [e1]; omega

/-- Every entry, from the arguments. -/
def modulation (c : FVec Ideal S8x4096 .f32) (w : FVec Ideal S4096x24576 .f32) (b : FVec Ideal S1x24576 .f32) : FVec Ideal S8x24576 .f32 := fun i =>
  (∑ k : Fin 4096, silu (c (ix2 (i 0) k)) * w (ix2 k (i 1))) + b (ix2 (0 : Fin 1) (i 1))

/-- The modulation of the kernel's arguments. -/
def result (m : (ℓ : Loc nD τ sig) → Buf (Elt Ideal) ℓ) (c : Dev nD) : FVec Ideal S8x24576 .f32 :=
  modulation (m ((c : Thread nD τ).loc main_arg0)) (m ((c : Thread nD τ).loc main_arg1)) (m ((c : Thread nD τ).loc main_arg2))

/-- What a point computes, placed in the result. -/
theorem tile_at (m : (ℓ : Loc nD τ sig) → Buf (Elt Ideal) ℓ) (c : Dev nD)
    (hm : Below (m ((c : Thread nD τ).loc main_arg0)))
    (t : Fin cfg0.N) (r : Fin 8) (j : Fin 512) (i : S8x24576.Idx) (h0 : i 0 = r) (h1 : (i 1).val = 512 * t.val + j.val) :
    k0_pay1 (cond m c t) (weights m c t) (bias m c t) (ix2 r j) = result m c i := by
  rw [pay_eq _ _ _ r j (fun k => by rw [cond_at]; exact hm _), bias_at m c t j (i 1) h1]
  unfold result modulation
  rw [h0]
  refine (fun {g u v : EReal} (h : u = v) => (congrArg (fun v => v + g) h : u + g = v + g)) ?_
  refine Finset.sum_congr rfl fun k _ => ?_
  rw [cond_at, weights_at m c t k j (i 1) h1]

/-- What a point writes back is its block of the result. -/
theorem flushed_eq (m : (ℓ : Loc nD τ sig) → Buf (Elt Ideal) ℓ) (c : Dev nD)
    (hm : Below (m ((c : Thread nD τ).loc main_arg0))) (t : Fin cfg0.N) :
    (dats m 0 c).flushed 3 t = ((cfg0.win 3).blk t).view.read (Elt Ideal) (result m c) := by
  obtain ⟨-, -, -, ⟨e0, e1⟩, -⟩ := places t
  rw [flushed3, tile_eq]
  funext y
  obtain ⟨r, j, rfl⟩ : ∃ (r : Fin 8) (j : Fin 512), y = ix2 r j := ⟨y 0, y 1, by funext a; match a with | ⟨0, _⟩ => rfl | ⟨1, _⟩ => rfl⟩
  rw [View.read_apply]
  exact tile_at m c hm t r j (((cfg0.win 3).blk t).view.emb (ix2 r j))
    (Fin.ext (by show win0_3.index t 0 * 8 + 1 * r.val = r.val; rw [e0]; omega))
    (by show win0_3.index t 1 * 512 + 1 * j.val = _; rw [e1]; omega)

/-- Every entry lies in some point's block. -/
theorem covered (i : S8x24576.Idx) :
    ∃ t : Fin cfg0.N, (cfg0.win 3).flush t = true ∧ i ∈ ((cfg0.win 3).blk t).view.set := by
  have hN : cfg0.N = 48 := N_0
  have h0 : (i 0).val < 8 := (i 0).isLt
  have h1 : (i 1).val < 24576 := (i 1).isLt
  have ht : (i 1).val / 512 < cfg0.N := by omega
  obtain ⟨t, et⟩ : ∃ t : Fin cfg0.N, t.val = (i 1).val / 512 := ⟨⟨_, ht⟩, rfl⟩
  obtain ⟨-, -, -, ⟨e0, e1⟩, hf⟩ := places t
  refine ⟨t, hf, ?_⟩
  show i ∈ ((View.whole main_v0).slice (win0_3.rect t)).set
  rw [View.set_slice_whole, Rect.mem_set_unit]
  intro a
  match a with
  | ⟨0, _⟩ => show win0_3.index t 0 * 8 ≤ (i 0).val ∧ (i 0).val < win0_3.index t 0 * 8 + 8; rw [e0]; omega
  | ⟨1, _⟩ => show win0_3.index t 1 * 512 ≤ (i 1).val ∧ (i 1).val < win0_3.index t 1 * 512 + 512; rw [e1]; omega

/-- The result array after the run. -/
theorem final (m : (ℓ : Loc nD τ sig) → Buf (Elt Ideal) ℓ) (c : Dev nD)
    (hm : Below (m ((c : Thread nD τ).loc main_arg0))) :
    (dats m 0 c).arrAt 3 cfg0.N = result m c :=
  (dats m 0 c).arrAt_eq_of_cover 3 _ (fun t _ => flushed_eq m c hm t) covered

/-- The claim. -/
theorem claim : Cert.algebraic_Kernel9Ideal_Reference9Ideal_pre_finite9 := by
  intro m g m' g' hpre hargs
  refine ⟨result m, ?_, ?_⟩
  · exact (θ_run Cert.Kernel9Ideal.defs _ _).mono (fun r h c => ⟨(h c).1.trans (final m c fun i => below _ _ _ (hpre c) i), (h c).2⟩) (run_blocks m g)
  · refine (θ_run Cert.Reference9Ideal.defs _ _).mono (fun r h c => ⟨(h c).1.trans ?_, (h c).2⟩) (Cert.Reference9Ideal.Value.run m' g')
    rw [(hargs c).1, (hargs c).2.1, (hargs c).2.2]
    funext i
    exact Plain.composed_at (m (c.tc.loc main_arg0)) (m (c.tc.loc main_arg1)) (m (c.tc.loc main_arg2)) i

/-- The reference's frame. -/
theorem frame_reference : Cert.quiescent_Reference9Ideal := by
  intro m g _
  exact (θ_run Cert.Reference9Ideal.defs _ _).mono (fun r h => ⟨fun c => (h c).2, sem_eq_zero_of_no_sems (by decide) _⟩)
    (Cert.Reference9Ideal.Value.run m g)

end Cert.Proof.Ada

end
-- ==== Proof.CtxGate.Value.lean ====
/- The gates' input projection of the context: a forget gate is the lower bound plus the rest of it times the logistic of the
   projection, the lower bound a softmax's first row over the parameter's two; the key is one minus the gate. -/
module

public import proofs.«01_k».proof.Defs
public import proofs.«01_k».proof.Proof.Gen.Kernel10Ideal.Value
public import proofs.«01_k».proof.Proof.Gen.Reference10Ideal.Run
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.CtxGate

open Cert.Kernel10Ideal Cert.Kernel10Ideal.Gen Cert.Kernel10Ideal.Value

variable {F : FTy → Type} [FloatOps F]
variable (m : (ℓ : Loc nD τ sig) → Buf (Elt F) ℓ)

theorem origin : (![0, 0] : Fin 2 → Nat) = fun _ => 0 := funext fun a => by fin_cases a <;> rfl

/-- What a point leaves in the gates' tile. Its weight tile passes, rounded, through the scratch. -/
theorem out_eq3 (c : Dev nD) (i : grid0.Coords) (a2 : Memref sig .tc .vmem S1024x4096 .bf16) (h2 : a2.IsWhole)
    (a3 : Memref sig .tc .vmem S2x512 .f32) (h3 : a3.IsWhole) (a4 : Memref sig .tc .vmem S4096x512 .f32) (h4 : a4.IsWhole)
    (a5 : Memref sig .tc .vmem S1024x512 .f32) (h5 : a5.IsWhole) (a6 : Memref sig .tc .vmem S1024x512 .bf16) (h6 : a6.IsWhole)
    (a7 : Memref sig .tc .vmem S4096x512 .bf16) (h7 : a7.IsWhole) (hc : cond0_0 i)
    (x : Vec F S1024x4096 .bf16) (p : Vec F S2x512 .f32) (w : Vec F S4096x512 .f32) : out0_A_3 c i a2 h2 a3 h3 a4 h4 a5 h5 a6 h6 a7 h7 hc x p w = k0_pay2 x (k0_pay1 w) p := by
  unfold out0_A_3
  rw [View.read_writes_eq_canon _ _ _ (cover0_A_3 c i a2 h2 a3 h3 a4 h4 a5 h5 a6 h6 a7 h7 hc x p w)]
  unfold kernelRun0_A
  dsimp only
  sl_unfold_words
  rw [View.canon_unit_zero origin, View.readCov_unit_zero (S := S4096x512) _ origin]
  simp only [View.readAt_eq_ld, h2.read_unread, h3.read_unread, h4.read_unread,
    View.ld_unit_zero (S := S1024x4096) origin, View.ld_unit_zero (S := S2x512) origin, View.ld_unit_zero (S := S4096x512) origin]

/-- What it leaves in the keys' tile. -/
theorem out_eq4 (c : Dev nD) (i : grid0.Coords) (a2 : Memref sig .tc .vmem S1024x4096 .bf16) (h2 : a2.IsWhole)
    (a3 : Memref sig .tc .vmem S2x512 .f32) (h3 : a3.IsWhole) (a4 : Memref sig .tc .vmem S4096x512 .f32) (h4 : a4.IsWhole)
    (a5 : Memref sig .tc .vmem S1024x512 .f32) (h5 : a5.IsWhole) (a6 : Memref sig .tc .vmem S1024x512 .bf16) (h6 : a6.IsWhole)
    (a7 : Memref sig .tc .vmem S4096x512 .bf16) (h7 : a7.IsWhole) (hc : cond0_0 i)
    (x : Vec F S1024x4096 .bf16) (p : Vec F S2x512 .f32) (w : Vec F S4096x512 .f32) : out0_A_4 c i a2 h2 a3 h3 a4 h4 a5 h5 a6 h6 a7 h7 hc x p w = k0_pay3 x (k0_pay1 w) p := by
  unfold out0_A_4
  rw [View.read_writes_eq_canon _ _ _ (cover0_A_4 c i a2 h2 a3 h3 a4 h4 a5 h5 a6 h6 a7 h7 hc x p w)]
  unfold kernelRun0_A
  dsimp only
  sl_unfold_words
  rw [View.canon_unit_zero origin, View.readCov_unit_zero (S := S4096x512) _ origin]
  simp only [View.readAt_eq_ld, h2.read_unread, h3.read_unread, h4.read_unread,
    View.ld_unit_zero (S := S1024x4096) origin, View.ld_unit_zero (S := S2x512) origin, View.ld_unit_zero (S := S4096x512) origin]

/-- The tiles' places: point `t` is the one row tile and column tile `t`. -/
theorem places : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val) :=
  (by decide +kernel : ∀ t : Fin grid0.N, _)

/-- The row tile point `t` reads. -/
def rows (c : Dev nD) (t : Fin cfg0.N) : Vec F S1024x4096 .bf16 := iblk m c 0 t

/-- Its entry. -/
theorem rows_at (c : Dev nD) (t : Fin cfg0.N) (y : S1024x4096.Idx) (i : S1024x4096.Idx)
    (h0 : (i 0).val = (y 0).val) (h1 : (i 1).val = (y 1).val) :
    rows m c t y = (m ((c : Thread nD τ).loc main_arg0) : Vec F S1024x4096 .bf16) i := by
  obtain ⟨⟨e0, e1⟩, -⟩ := places t
  unfold rows iblk
  rw [View.read_apply]
  show V m c main_arg0 _ = m (c.tc.loc main_arg0) _
  rw [V_main_arg0]
  congr 1
  funext a
  apply Fin.ext
  match a with
  | ⟨0, _⟩ => show win0_0.index t 0 * 1024 + 1 * (y 0).val = _; rw [e0]; exact Eq.trans (by omega) h0.symm
  | ⟨1, _⟩ => show win0_0.index t 1 * 4096 + 1 * (y 1).val = _; rw [e1]; exact Eq.trans (by omega) h1.symm

/-- The parameter tile point `t` reads. -/
def params (c : Dev nD) (t : Fin cfg0.N) : Vec F S2x512 .f32 := iblk m c 1 t

/-- Its entry. -/
theorem params_at (c : Dev nD) (t : Fin cfg0.N) (y : S2x512.Idx) (i : S2x4096.Idx)
    (h0 : (i 0).val = (y 0).val) (h1 : (i 1).val = 512 * t.val + (y 1).val) :
    params m c t y = (m ((c : Thread nD τ).loc main_arg1) : Vec F S2x4096 .f32) i := by
  obtain ⟨-, ⟨e0, e1⟩, -⟩ := places t
  unfold params iblk
  rw [View.read_apply]
  show V m c main_arg1 _ = m (c.tc.loc main_arg1) _
  rw [V_main_arg1]
  congr 1
  funext a
  apply Fin.ext
  match a with
  | ⟨0, _⟩ => show win0_1.index t 0 * 2 + 1 * (y 0).val = _; rw [e0]; exact Eq.trans (by omega) h0.symm
  | ⟨1, _⟩ => show win0_1.index t 1 * 512 + 1 * (y 1).val = _; rw [e1]; exact Eq.trans (by omega) h1.symm

/-- The weight tile point `t` reads. -/
def weights (c : Dev nD) (t : Fin cfg0.N) : Vec F S4096x512 .f32 := iblk m c 2 t

/-- Its entry. -/
theorem weights_at (c : Dev nD) (t : Fin cfg0.N) (y : S4096x512.Idx) (i : S4096x12288.Idx)
    (h0 : (i 0).val = (y 0).val) (h1 : (i 1).val = 512 * t.val + (y 1).val) :
    weights m c t y = (m ((c : Thread nD τ).loc main_arg2) : Vec F S4096x12288 .f32) i := by
  obtain ⟨-, -, ⟨e0, e1⟩, -⟩ := places t
  unfold weights iblk
  rw [View.read_apply]
  show V m c main_arg2 _ = m (c.tc.loc main_arg2) _
  rw [V_main_arg2]
  congr 1
  funext a
  apply Fin.ext
  match a with
  | ⟨0, _⟩ => show win0_2.index t 0 * 4096 + 1 * (y 0).val = _; rw [e0]; exact Eq.trans (by omega) h0.symm
  | ⟨1, _⟩ => show win0_2.index t 1 * 512 + 1 * (y 1).val = _; rw [e1]; exact Eq.trans (by omega) h1.symm

/-- So every point leaves the gates' payload of its own tiles. -/
theorem tile_eq3 (c : Dev nD) (t : Fin cfg0.N) :
    (outsAt0 m c t).1 = k0_pay2 (rows m c t) (k0_pay1 (weights m c t)) (params m c t) := by
  unfold outsAt0
  dsimp only
  rw [out_eq3]
  rfl

/-- So every point leaves the keys' payload of its own tiles. -/
theorem tile_eq4 (c : Dev nD) (t : Fin cfg0.N) :
    (outsAt0 m c t).2 = k0_pay3 (rows m c t) (k0_pay1 (weights m c t)) (params m c t) := by
  unfold outsAt0
  dsimp only
  rw [out_eq4]
  rfl

/-- The largest of a column's two parameters. -/
def top (q : Fin 2 → EReal) : EReal := Finset.fold max (Ideal.ofBits .f32 4286578688#32) q Finset.univ

/-- A column's lower bound: the first of the softmax of its two parameters. -/
def bound (q : Fin 2 → EReal) : EReal := Ideal.div (Ideal.exp (q 0 - top q)) (∑ r, Ideal.exp (q r - top q))

/-- A gate, of its column's parameters and its projection. -/
def gate (q : Fin 2 → EReal) (z : EReal) : EReal := bound q + (1 - bound q) * Ideal.logistic z

/-- The weight's column for a gate's. -/
def wide (j : Fin 4096) : Fin 12288 := ⟨j.val, by omega⟩

/-- The forget gates. -/
def forget (x : FVec Ideal S1024x4096 .bf16) (p : FVec Ideal S2x4096 .f32) (w : FVec Ideal S4096x12288 .f32) :
    FVec Ideal S1024x4096 .f32 := fun i =>
  gate (fun r => p (ix2 r (i 1))) (∑ k : Fin 4096, x (ix2 (i 0) k) * w (ix2 k (wide (i 1))))

/-- The keys. -/
def keys (x : FVec Ideal S1024x4096 .bf16) (p : FVec Ideal S2x4096 .f32) (w : FVec Ideal S4096x12288 .f32) :
    FVec Ideal S1024x4096 .bf16 := fun i => 1 - forget x p w i

/-- A point's payload for the gates, entry by entry. -/
theorem payload_at3 (x : FVec Ideal S1024x4096 .bf16) (p : FVec Ideal S2x512 .f32) (w : FVec Ideal S4096x512 .f32) (y : S1024x512.Idx) :
    k0_pay2 (F := Ideal) x (k0_pay1 (F := Ideal) w) p y
      = gate (fun r => p (ix2 r (y 1))) (∑ k : Fin 4096, x (ix2 (y 0) k) * w (ix2 k (y 1))) := by
  unfold gate bound top
  pointwise [k0_pay2, k0_pay1]

/-- A point's payload for the keys, entry by entry. -/
theorem payload_at4 (x : FVec Ideal S1024x4096 .bf16) (p : FVec Ideal S2x512 .f32) (w : FVec Ideal S4096x512 .f32) (y : S1024x512.Idx) :
    k0_pay3 (F := Ideal) x (k0_pay1 (F := Ideal) w) p y
      = 1 - gate (fun r => p (ix2 r (y 1))) (∑ k : Fin 4096, x (ix2 (y 0) k) * w (ix2 k (y 1))) := by
  rw [← payload_at3]
  unfold k0_pay3
  generalize k0_pay2 (F := Ideal) x (k0_pay1 (F := Ideal) w) p = f
  pointwise

/-- The gates of the kernel's arguments. -/
def result3 (m : (ℓ : Loc nD τ sig) → Buf (Elt Ideal) ℓ) (c : Dev nD) : FVec Ideal S1024x4096 .f32 :=
  forget (m ((c : Thread nD τ).loc main_arg0)) (m ((c : Thread nD τ).loc main_arg1)) (m ((c : Thread nD τ).loc main_arg2))

/-- The keys of the kernel's arguments. -/
def result4 (m : (ℓ : Loc nD τ sig) → Buf (Elt Ideal) ℓ) (c : Dev nD) : FVec Ideal S1024x4096 .bf16 :=
  keys (m ((c : Thread nD τ).loc main_arg0)) (m ((c : Thread nD τ).loc main_arg1)) (m ((c : Thread nD τ).loc main_arg2))

/-- A point's gate is the result's at its place. -/
theorem gate_at (m : (ℓ : Loc nD τ sig) → Buf (Elt Ideal) ℓ) (c : Dev nD) (t : Fin cfg0.N) (y : S1024x512.Idx) (i : S1024x4096.Idx)
    (h0 : (i 0).val = (y 0).val) (h1 : (i 1).val = 512 * t.val + (y 1).val) :
    gate (fun r => params m c t (ix2 r (y 1))) (∑ k : Fin 4096, rows m c t (ix2 (y 0) k) * weights m c t (ix2 k (y 1))) = result3 m c i := by
  unfold result3 forget
  congr 1
  · funext r
    exact params_at m c t (ix2 r (y 1)) (ix2 r (i 1)) rfl h1
  · refine Finset.sum_congr rfl fun k _ => ?_
    rw [rows_at m c t (ix2 (y 0) k) (ix2 (i 0) k) h0 rfl, weights_at m c t (ix2 k (y 1)) (ix2 k (wide (i 1))) rfl h1]

/-- What a point writes back is its block of the result. -/
theorem flushed_eq3 (m : (ℓ : Loc nD τ sig) → Buf (Elt Ideal) ℓ) (c : Dev nD) (t : Fin cfg0.N) :
    (dats m 0 c).flushed 3 t = ((cfg0.win 3).blk t).view.read (Elt Ideal) (result3 m c) := by
  obtain ⟨-, -, -, ⟨e0, e1⟩, -⟩ := places t
  rw [flushed3, tile_eq3]
  funext y
  rw [View.read_apply]
  have h0 : (((cfg0.win 3).blk t).view.emb y 0).val = (y 0).val := by
    show win0_3.index t 0 * 1024 + 1 * (y 0).val = _; rw [e0]; omega
  have h1 : (((cfg0.win 3).blk t).view.emb y 1).val = 512 * t.val + (y 1).val := by
    show win0_3.index t 1 * 512 + 1 * (y 1).val = _; rw [e1]; omega
  exact (payload_at3 (rows m c t) (params m c t) (weights m c t) y).trans
    (gate_at m c t y (((cfg0.win 3).blk t).view.emb y) h0 h1)

/-- Every entry lies in some point's block. -/
theorem covered3 (i : S1024x4096.Idx) :
    ∃ t : Fin cfg0.N, (cfg0.win 3).flush t = true ∧ i ∈ ((cfg0.win 3).blk t).view.set := by
  have hN : cfg0.N = 8 := N_0
  have h0 : (i 0).val < 1024 := (i 0).isLt
  have h1 : (i 1).val < 4096 := (i 1).isLt
  have ht : (i 1).val / 512 < cfg0.N := by omega
  obtain ⟨t, et⟩ : ∃ t : Fin cfg0.N, t.val = (i 1).val / 512 := ⟨⟨_, ht⟩, rfl⟩
  obtain ⟨-, -, -, ⟨e0, e1⟩, -⟩ := places t
  refine ⟨t, flush0_3 t, ?_⟩
  show i ∈ ((View.whole main_v0_0).slice (win0_3.rect t)).set
  rw [View.set_slice_whole, Rect.mem_set_unit]
  intro a
  match a with
  | ⟨0, _⟩ => show win0_3.index t 0 * 1024 ≤ (i 0).val ∧ (i 0).val < win0_3.index t 0 * 1024 + 1024; rw [e0]; omega
  | ⟨1, _⟩ => show win0_3.index t 1 * 512 ≤ (i 1).val ∧ (i 1).val < win0_3.index t 1 * 512 + 512; rw [e1]; omega

/-- The result array after the run. -/
theorem final_3 (m : (ℓ : Loc nD τ sig) → Buf (Elt Ideal) ℓ) (c : Dev nD) : (dats m 0 c).arrAt 3 cfg0.N = result3 m c :=
  (dats m 0 c).arrAt_eq_of_cover 3 _ (fun t _ => flushed_eq3 m c t) covered3

/-- What a point writes back is its block of the result. -/
theorem flushed_eq4 (m : (ℓ : Loc nD τ sig) → Buf (Elt Ideal) ℓ) (c : Dev nD) (t : Fin cfg0.N) :
    (dats m 0 c).flushed 4 t = ((cfg0.win 4).blk t).view.read (Elt Ideal) (result4 m c) := by
  obtain ⟨-, -, -, -, e0, e1⟩ := places t
  rw [flushed4, tile_eq4]
  funext y
  rw [View.read_apply]
  have h0 : (((cfg0.win 4).blk t).view.emb y 0).val = (y 0).val := by
    show win0_4.index t 0 * 1024 + 1 * (y 0).val = _; rw [e0]; omega
  have h1 : (((cfg0.win 4).blk t).view.emb y 1).val = 512 * t.val + (y 1).val := by
    show win0_4.index t 1 * 512 + 1 * (y 1).val = _; rw [e1]; omega
  exact (payload_at4 (rows m c t) (params m c t) (weights m c t) y).trans
    (congrArg (fun f : EReal => 1 - f) (gate_at m c t y (((cfg0.win 4).blk t).view.emb y) h0 h1))

/-- Every entry lies in some point's block. -/
theorem covered4 (i : S1024x4096.Idx) :
    ∃ t : Fin cfg0.N, (cfg0.win 4).flush t = true ∧ i ∈ ((cfg0.win 4).blk t).view.set := by
  have hN : cfg0.N = 8 := N_0
  have h0 : (i 0).val < 1024 := (i 0).isLt
  have h1 : (i 1).val < 4096 := (i 1).isLt
  have ht : (i 1).val / 512 < cfg0.N := by omega
  obtain ⟨t, et⟩ : ∃ t : Fin cfg0.N, t.val = (i 1).val / 512 := ⟨⟨_, ht⟩, rfl⟩
  obtain ⟨-, -, -, -, e0, e1⟩ := places t
  refine ⟨t, flush0_4 t, ?_⟩
  show i ∈ ((View.whole main_v0_1).slice (win0_4.rect t)).set
  rw [View.set_slice_whole, Rect.mem_set_unit]
  intro a
  match a with
  | ⟨0, _⟩ => show win0_4.index t 0 * 1024 ≤ (i 0).val ∧ (i 0).val < win0_4.index t 0 * 1024 + 1024; rw [e0]; omega
  | ⟨1, _⟩ => show win0_4.index t 1 * 512 ≤ (i 1).val ∧ (i 1).val < win0_4.index t 1 * 512 + 512; rw [e1]; omega

/-- The result array after the run. -/
theorem final_4 (m : (ℓ : Loc nD τ sig) → Buf (Elt Ideal) ℓ) (c : Dev nD) : (dats m 0 c).arrAt 4 cfg0.N = result4 m c :=
  (dats m 0 c).arrAt_eq_of_cover 4 _ (fun t _ => flushed_eq4 m c t) covered4

end Cert.Proof.CtxGate

namespace Cert.Proof.CtxGate

/-! ## The reference's composed terms -/

section

open Cert.Reference10Ideal

/-- Its columns' largest parameters. -/
def largest (p : FVec Ideal S2x4096 .f32) : FVec Ideal S4096 .f32 :=
  maximumf (broadcastInDim S4096 ![] Facts₀.bcast_S_S4096 (constant S_ .f32 0xFF800000#32)) (Host.reduce FloatOps.maximumf p (constant S_ .f32 0xFF800000#32) Facts₀.reducesTo_S2x4096_S4096_d0 Facts₀.h_S_)

/-- The exponentials of what is left. -/
def shifted (p : FVec Ideal S2x4096 .f32) : FVec Ideal S2x4096 .f32 :=
  Host.exp (subf p (broadcastInDim S2x4096 ![0, 1] Facts₀.bcast_S1x4096_S2x4096_0_1 (broadcastInDim S1x4096 ![1] Facts₀.bcast_S4096_S1x4096_1 (largest p))))

/-- The softmax's first row. -/
def lowerBound (p : FVec Ideal S2x4096 .f32) : FVec Ideal S4096 .f32 :=
  shapeCast S4096 (extractStridedSlice S1x4096 ![0, 0] (Host.divf (shifted p) (broadcastInDim S2x4096 ![0, 1] Facts₀.bcast_S1x4096_S2x4096_0_1 (broadcastInDim S1x4096 ![1] Facts₀.bcast_S4096_S1x4096_1 (Host.reduceAdd (shifted p) (constant S_ .f32 0x00000000#32) Facts₀.reducesTo_S2x4096_S4096_d0 Facts₀.h_S_)))) Facts₀.slices_S2x4096_S1x4096_0_0) Facts₀.shapeCasts_S1x4096_S4096

/-- The gates. -/
def gates (x : FVec Ideal S1024x4096 .bf16) (p : FVec Ideal S2x4096 .f32) (w : FVec Ideal S4096x12288 .f32) : FVec Ideal S1024x4096 .f32 :=
  addf (broadcastInDim S1024x4096 ![0, 1] Facts₀.bcast_S1x4096_S1024x4096_0_1 (broadcastInDim S1x4096 ![1] Facts₀.bcast_S4096_S1x4096_1 (lowerBound p))) (mulf (broadcastInDim S1024x4096 ![0, 1] Facts₀.bcast_S1x4096_S1024x4096_0_1 (broadcastInDim S1x4096 ![1] Facts₀.bcast_S4096_S1x4096_1 (subf (broadcastInDim S4096 ![] Facts₀.bcast_S_S4096 (constant S_ .f32 0x3F800000#32)) (lowerBound p)))) (Host.divf (broadcastInDim S1024x4096 ![] Facts₀.bcast_S_S1024x4096 (constant S_ .f32 0x3F800000#32)) (addf (broadcastInDim S1024x4096 ![] Facts₀.bcast_S_S1024x4096 (constant S_ .f32 0x3F800000#32)) (Host.exp (Host.negf (Host.dotGeneral dot_S1024x4096_S4096x4096_S1024x4096_1_0_0_1_n_n none (extf .f32 x Facts₀.bitsLt_bf16_f32) (extractStridedSlice S4096x4096 ![0, 0] w Facts₀.slices_S4096x12288_S4096x4096_0_0)))))))

/-- Its lower bound, column by column. -/
theorem lowerBound_at (p : FVec Ideal S2x4096 .f32) (j : S4096.Idx) : lowerBound p j = bound (fun r => p (ix2 r (j 0))) := by
  have e : ∀ q : Fin 2 → EReal, max (Ideal.ofBits .f32 4286578688#32) (top q) = top q := fun q =>
    max_eq_right ((Finset.le_fold_max _).2 (Or.inl le_rfl))
  unfold bound
  rw [← e]
  unfold top
  pointwise [lowerBound, shifted, largest]

/-- Its gates, entry by entry. -/
theorem gates_at (x : FVec Ideal S1024x4096 .bf16) (p : FVec Ideal S2x4096 .f32) (w : FVec Ideal S4096x12288 .f32) (i : S1024x4096.Idx) :
    gates x p w i = forget x p w i := by
  unfold forget gate wide Ideal.logistic
  rw [show bound (fun r => p (ix2 r (i 1))) = lowerBound p (ix1 (i 1)) from (lowerBound_at p (ix1 (i 1))).symm]
  unfold gates
  generalize lowerBound p = b
  pointwise

/-- And its keys. -/
theorem keys_at (x : FVec Ideal S1024x4096 .bf16) (p : FVec Ideal S2x4096 .f32) (w : FVec Ideal S4096x12288 .f32) (i : S1024x4096.Idx) :
    truncf (F := Ideal) .bf16 (subf (broadcastInDim S1024x4096 ![] Facts₀.bcast_S_S1024x4096 (constant S_ .f32 0x3F800000#32)) (gates x p w))
      Facts₀.bitsLt_bf16_f32 i = keys x p w i := by
  unfold keys
  rw [← gates_at]
  generalize gates x p w = f
  pointwise

end

section

open Cert.Kernel10Ideal Cert.Kernel10Ideal.Gen Cert.Kernel10Ideal.Value

/-- The claim. -/
theorem claim : Cert.algebraic_Kernel10Ideal_Reference10Ideal := by
  intro m g m' g' _ hargs
  refine ⟨result3 m, result4 m, ?_, ?_⟩
  · exact (θ_run Cert.Kernel10Ideal.defs _ _).mono (fun r h c => ⟨(h c).1.trans (final_3 m c), (h c).2.1.trans (final_4 m c), (h c).2.2⟩)
      (run_blocks m g)
  · refine (θ_run Cert.Reference10Ideal.defs _ _).mono (fun r h c => ⟨(h c).1.trans ?_, (h c).2.1.trans ?_, (h c).2.2⟩)
      (Cert.Reference10Ideal.Value.run m' g')
    · rw [(hargs c).1, (hargs c).2.1, (hargs c).2.2]
      funext i
      exact gates_at (m (c.tc.loc main_arg0)) (m (c.tc.loc main_arg1)) (m (c.tc.loc main_arg2)) i
    · rw [(hargs c).1, (hargs c).2.1, (hargs c).2.2]
      funext i
      exact keys_at (m (c.tc.loc main_arg0)) (m (c.tc.loc main_arg1)) (m (c.tc.loc main_arg2)) i

end

/-- The reference's frame. -/
theorem frame_reference : Cert.quiescent_Reference10Ideal := by
  intro m g _
  exact (θ_run Cert.Reference10Ideal.defs _ _).mono (fun r h => ⟨fun c => (h c).2.2, sem_eq_zero_of_no_sems (by decide) _⟩)
    (Cert.Reference10Ideal.Value.run m g)

end Cert.Proof.CtxGate

end
-- ==== Proof.CtxRest.Value.lean ====
/- The remaining input projection of the context: every entry of the result is the sum, over the model width, of a normed token's
   entry times a weight column's, the columns starting past the gates'. -/
module

public import proofs.«01_k».proof.Defs
public import proofs.«01_k».proof.Proof.Gen.Kernel11Ideal.Value
public import proofs.«01_k».proof.Proof.Gen.Reference11Ideal.Run
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.CtxRest

open Cert.Kernel11Ideal Cert.Kernel11Ideal.Gen Cert.Kernel11Ideal.Value

variable {F : FTy → Type} [FloatOps F]
variable (m : (ℓ : Loc nD τ sig) → Buf (Elt F) ℓ)

theorem origin : (![0, 0] : Fin 2 → Nat) = fun _ => 0 := funext fun a => by fin_cases a <;> rfl

/-- What a point leaves in the result's tile: the product of its rows with its weight tile, which passes, rounded, through the scratch. -/
theorem out_eq (c : Dev nD) (i : grid0.Coords) (a2 : Memref sig .tc .vmem S1024x4096 .bf16) (h2 : a2.IsWhole)
    (a3 : Memref sig .tc .vmem S4096x512 .f32) (h3 : a3.IsWhole) (a4 : Memref sig .tc .vmem S1024x512 .bf16) (h4 : a4.IsWhole)
    (a5 : Memref sig .tc .vmem S4096x512 .bf16) (h5 : a5.IsWhole) (hc : cond0_0 i)
    (x : Vec F S1024x4096 .bf16) (w : Vec F S4096x512 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero origin, View.readCov_unit_zero (S := S4096x512) _ origin]
  simp only [View.readAt_eq_ld, h2.read_unread, h3.read_unread, View.ld_unit_zero (S := S4096x512) origin,
    View.ld_unit_zero (S := S1024x4096) origin]

/-- The tiles' places: point `t` reads the one row tile and weight tile `8 + t`, and writes tile `t`. -/
theorem places : ∀ t : Fin cfg0.N, win0_0.index t (0 : Fin 2) = 0 ∧ win0_0.index t (1 : Fin 2) = 0
    ∧ win0_1.index t (0 : Fin 2) = 0 ∧ win0_1.index t (1 : Fin 2) = 8 + t.val
    ∧ win0_2.index t (0 : Fin 2) = 0 ∧ win0_2.index t (1 : Fin 2) = t.val :=
  (by decide +kernel : ∀ t : Fin grid0.N, _)

/-- The row tile point `t` reads. -/
def rows (c : Dev nD) (t : Fin cfg0.N) : Vec F S1024x4096 .bf16 := iblk m c 0 t

/-- The weight tile point `t` reads. -/
def weights (c : Dev nD) (t : Fin cfg0.N) : Vec F S4096x512 .f32 := iblk m c 1 t

/-- A row tile's entry. -/
theorem rows_at (c : Dev nD) (t : Fin cfg0.N) (y : S1024x4096.Idx) (i : S1024x4096.Idx)
    (h0 : (i 0).val = (y 0).val) (h1 : (i 1).val = (y 1).val) :
    rows m c t y = (m ((c : Thread nD τ).loc main_arg0) : Vec F S1024x4096 .bf16) i := by
  obtain ⟨e0, e1, -⟩ := places t
  unfold rows iblk
  rw [View.read_apply]
  show V m c main_arg0 _ = m (c.tc.loc main_arg0) _
  rw [V_main_arg0]
  congr 1
  funext a
  apply Fin.ext
  match a with
  | ⟨0, _⟩ => show win0_0.index t 0 * 1024 + 1 * (y 0).val = _; rw [e0]; exact Eq.trans (by omega) h0.symm
  | ⟨1, _⟩ => show win0_0.index t 1 * 4096 + 1 * (y 1).val = _; rw [e1]; exact Eq.trans (by omega) h1.symm

/-- A weight tile's entry. -/
theorem weights_at (c : Dev nD) (t : Fin cfg0.N) (y : S4096x512.Idx) (i : S4096x12288.Idx)
    (h0 : (i 0).val = (y 0).val) (h1 : (i 1).val = 4096 + 512 * t.val + (y 1).val) :
    weights m c t y = (m ((c : Thread nD τ).loc main_arg1) : Vec F S4096x12288 .f32) i := by
  obtain ⟨-, -, e0, e1, -⟩ := places t
  unfold weights iblk
  rw [View.read_apply]
  show V m c main_arg1 _ = m (c.tc.loc main_arg1) _
  rw [V_main_arg1]
  congr 1
  funext a
  apply Fin.ext
  match a with
  | ⟨0, _⟩ => show win0_1.index t 0 * 4096 + 1 * (y 0).val = _; rw [e0]; exact Eq.trans (by omega) h0.symm
  | ⟨1, _⟩ => show win0_1.index t 1 * 512 + 1 * (y 1).val = _; rw [e1]; exact Eq.trans (by omega) h1.symm

/-- So every point leaves the product of its rows with its weight tile. -/
theorem tile_eq (c : Dev nD) (t : Fin cfg0.N) :
    outsAt0 m c t = k0_pay2 (rows m c t) (k0_pay1 (weights m c t)) := by
  unfold outsAt0
  rw [out_eq]
  rfl

/-- The product's column `j` is the weight's column `4096 + j`. -/
def past (j : Fin 2048) : Fin 12288 := ⟨4096 + j.val, by omega⟩

/-- Every entry of the product: the sum over the model width. -/
def product (x : FVec Ideal S1024x4096 .bf16) (w : FVec Ideal S4096x12288 .f32) : FVec Ideal S1024x2048 .bf16 := fun i =>
  ∑ k : Fin 4096, x (ix2 (i 0) k) * w (ix2 k (past (i 1)))

/-- A point's payload, entry by entry. -/
theorem payload_at (x : FVec Ideal S1024x4096 .bf16) (w : FVec Ideal S4096x512 .f32) (y : S1024x512.Idx) :
    k0_pay2 x (k0_pay1 w) y = ∑ k : Fin 4096, x (ix2 (y 0) k) * w (ix2 k (y 1)) := by
  pointwise [k0_pay2, k0_pay1]

/-- The product of the kernel's arguments. -/
def result (m : (ℓ : Loc nD τ sig) → Buf (Elt Ideal) ℓ) (c : Dev nD) : FVec Ideal S1024x2048 .bf16 :=
  product (m ((c : Thread nD τ).loc main_arg0)) (m ((c : Thread nD τ).loc main_arg1))

/-- What a point computes, placed in the result. -/
theorem tile_at (m : (ℓ : Loc nD τ sig) → Buf (Elt Ideal) ℓ) (c : Dev nD) (t : Fin cfg0.N) (y : S1024x512.Idx) (i : S1024x2048.Idx)
    (h0 : (i 0).val = (y 0).val) (h1 : (i 1).val = 512 * t.val + (y 1).val) :
    k0_pay2 (rows m c t) (k0_pay1 (weights m c t)) y = result m c i := by
  rw [payload_at]
  unfold result product
  refine Finset.sum_congr rfl fun k _ => ?_
  rw [rows_at m c t (ix2 (y 0) k) (ix2 (i 0) k) h0 rfl, weights_at m c t (ix2 k (y 1)) (ix2 k (past (i 1))) rfl (by
    show 4096 + (i 1).val = 4096 + 512 * t.val + (y 1).val; omega)]

/-- What a point writes back is its block of the result. -/
theorem flushed_eq (m : (ℓ : Loc nD τ sig) → Buf (Elt Ideal) ℓ) (c : Dev nD) (t : Fin cfg0.N) :
    (dats m 0 c).flushed 2 t = ((cfg0.win 2).blk t).view.read (Elt Ideal) (result m c) := by
  obtain ⟨-, -, -, -, e0, e1⟩ := places t
  rw [flushed2, tile_eq]
  funext y
  rw [View.read_apply]
  exact tile_at m c t y (((cfg0.win 2).blk t).view.emb y)
    (by show win0_2.index t 0 * 1024 + 1 * (y 0).val = _; rw [e0]; omega)
    (by show win0_2.index t 1 * 512 + 1 * (y 1).val = _; rw [e1]; omega)

/-- Every entry lies in some point's block. -/
theorem covered2 (i : S1024x2048.Idx) :
    ∃ t : Fin cfg0.N, (cfg0.win 2).flush t = true ∧ i ∈ ((cfg0.win 2).blk t).view.set := by
  have hN : cfg0.N = 4 := N_0
  have h0 : (i 0).val < 1024 := (i 0).isLt
  have h1 : (i 1).val < 2048 := (i 1).isLt
  have ht : (i 1).val / 512 < cfg0.N := by omega
  obtain ⟨t, et⟩ : ∃ t : Fin cfg0.N, t.val = (i 1).val / 512 := ⟨⟨_, ht⟩, rfl⟩
  obtain ⟨-, -, -, -, e0, e1⟩ := places t
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 512 ≤ (i 1).val ∧ (i 1).val < win0_2.index t 1 * 512 + 512; rw [e1]; omega

/-- The result array after the run. -/
theorem final (m : (ℓ : Loc nD τ sig) → Buf (Elt Ideal) ℓ) (c : Dev nD) : (dats m 0 c).arrAt 2 cfg0.N = result m c :=
  (dats m 0 c).arrAt_eq_of_cover 2 _ (fun t _ => flushed_eq m c t) covered2

/-- The reference's composed term, entry by entry, is the same sum. -/
theorem reference_eq (x : FVec Ideal Reference11Ideal.S1024x4096 .bf16) (w : FVec Ideal Reference11Ideal.S4096x12288 .f32) (i : S1024x2048.Idx) :
    truncf (F := Ideal) .bf16 (Host.dotGeneral Reference11Ideal.dot_S1024x4096_S4096x2048_S1024x2048_1_0_0_1_n_n none
      (extf .f32 x Reference11Ideal.Facts₀.bitsLt_bf16_f32)
      (extractStridedSlice Reference11Ideal.S4096x2048 ![0, 4096] w Reference11Ideal.Facts₀.slices_S4096x12288_S4096x2048_0_4096))
      Reference11Ideal.Facts₀.bitsLt_bf16_f32 i
    = product x w i := by
  unfold product past
  pointwise

/-- The claim. -/
theorem claim : Cert.algebraic_Kernel11Ideal_Reference11Ideal := by
  intro m g m' g' _ hargs
  refine ⟨result m, ?_, ?_⟩
  · exact (θ_run Cert.Kernel11Ideal.defs _ _).mono (fun r h c => ⟨(h c).1.trans (final m c), (h c).2⟩) (run_blocks m g)
  · refine (θ_run Cert.Reference11Ideal.defs _ _).mono (fun r h c => ⟨(h c).1.trans ?_, (h c).2⟩) (Cert.Reference11Ideal.Value.run m' g')
    rw [(hargs c).1, (hargs c).2]
    funext i
    exact reference_eq (m (c.tc.loc main_arg0)) (m (c.tc.loc main_arg1)) i

/-- The reference's frame. -/
theorem frame_reference : Cert.quiescent_Reference11Ideal := by
  intro m g _
  exact (θ_run Cert.Reference11Ideal.defs _ _).mono (fun r h => ⟨fun c => (h c).2, sem_eq_zero_of_no_sems (by decide) _⟩)
    (Cert.Reference11Ideal.Value.run m g)

end Cert.Proof.CtxRest

end
-- ==== Proof.CtxNorm.Trips.lean ====
/- The body of the context's norm: its sixteen trips, each norming sixteen rows. -/
module

public import proofs.«01_k».proof.Defs
public import proofs.«01_k».proof.Proof.Gen.Kernel12Ideal.Value
public import Idealize.ShloMosaic.Lib.Pointwise
public import Idealize.ShloMosaic.Lib.Pipeline.Value
public import Idealize.ShloMosaic.Lib.WritesUnit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.CtxNorm

open Cert.Kernel12Ideal Cert.Kernel12Ideal.Gen Cert.Kernel12Ideal.Value

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-- The number of trips. -/
theorem trips_eq : k0_t1_loop.trips = 16 := by decide +kernel

/-- A trip's rows begin at sixteen times its number. -/
theorem off_eq : ∀ k : Fin k0_t1_loop.trips, k0_off1 k = ![16 * k.val, 0] := by decide +kernel

/-- A trip stores one piece: its sixteen rows, normed. -/
theorem trip_eq (𝒱 : Variants) (c : Dev nD) (bd : Option 𝒱.V) (i : grid0.Coords) (arg1 : Memref sig .tc .vmem S256x4096 .f32) (harg1 : arg1.IsWhole) (arg2 : Memref sig .tc .vmem S1x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S256x4096 .bf16) (harg5 : arg5.IsWhole) (v0 : Vec F S1x4096 .f32) (v1 : Vec F S1x1x4096 .f32) (v3 : Vec F S1x1x4096 .f32) (X : BufTy.Contents (Elt F) arg1.view.ty) (k : Fin k0_t1_loop.trips) :
    tripL_k0_t1 𝒱 c bd i arg1 harg1 arg2 harg2 arg3 harg3 arg4 harg4 arg5 harg5 v0 v1 v3 X k
      = [⟨Rect.unit (s := S256x4096) (k0_off1 k) S16x4096.size (k0_off1_inb k),
          k0_pay1 v0 v1 v3 (arg1.view.readAt (Elt F) (Rect.unit (s := S256x4096) (k0_off1 k) S16x4096.size (k0_off1_inb k)).toLoadRect X)⟩] := by
  unfold tripL_k0_t1 trip_k0_t1
  rfl

/-- Sixteen rows of a tile. -/
def rows (x : Vec F S256x4096 .f32) (k : Fin 16) : Vec F S16x4096 .f32 := fun j =>
  x (ix2 (⟨16 * k.val + (j 0).val, by have h : (j 0).val < 16 := (j 0).isLt; omega⟩ : Fin 256) (j 1))

/-- A trip's load reads its sixteen rows. -/
theorem load_eq (arg1 : Memref sig .tc .vmem S256x4096 .f32) (harg1 : arg1.IsWhole) (x : Vec F S256x4096 .f32) (k : Fin k0_t1_loop.trips)
    (k' : Fin 16) (hk : k'.val = k.val) :
    arg1.view.readAt (Elt F) (Rect.unit (s := S256x4096) (k0_off1 k) S16x4096.size (k0_off1_inb k)).toLoadRect (harg1.unread x) = rows x k' := by
  have e0 : k0_off1 k 0 = 16 * k.val := congrFun (off_eq k) 0
  have e1 : k0_off1 k 1 = 0 := congrFun (off_eq k) 1
  rw [View.readAt_eq_ld, harg1.read_unread]
  funext j
  unfold rows
  show x _ = x _
  congr 1
  funext a
  apply Fin.ext
  match a with
  | ⟨0, _⟩ => show k0_off1 k 0 + 1 * (j 0).val = 16 * k'.val + (j 0).val; omega
  | ⟨1, _⟩ => show k0_off1 k 1 + 1 * (j 1).val = (j 1).val; omega

/-- After some trips, the rows of those trips hold what each computes. -/
theorem after_trips (𝒱 : Variants) (c : Dev nD) (bd : Option 𝒱.V) (i : grid0.Coords) (arg1 : Memref sig .tc .vmem S256x4096 .f32) (harg1 : arg1.IsWhole) (arg2 : Memref sig .tc .vmem S1x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S256x4096 .bf16) (harg5 : arg5.IsWhole) (g : Vec F S1x4096 .f32) (a : Vec F S1x1x4096 .f32) (b : Vec F S1x1x4096 .f32) (x : Vec F S256x4096 .f32)
    (f : VO0_4.ty.Contents (Elt F)) (r : Fin 256) (d : Fin 4096) (k' : Fin 16) (r' : Fin 16) (hr : r.val = 16 * k'.val + r'.val) :
    ∀ n : ℕ, n ≤ 16 → r.val < 16 * n →
      VO0_4.read (Elt F) (VO0_4.writes (Elt F) f (pb_k0_t1 𝒱 c bd i arg1 harg1 arg2 harg2 arg3 harg3 arg4 harg4 arg5 harg5 g a b (harg1.unread x) n)) (ix2 r d)
        = k0_pay1 g a b (rows x k') (ix2 r' d)
  | 0, _, h => by omega
  | n + 1, hn, h => by
    have hk : n < k0_t1_loop.trips := by rw [trips_eq]; omega
    rw [pb_k0_t1_succ (k := ⟨n, hk⟩), trip_eq, List.singleton_append]
    by_cases hl : r.val < 16 * n
    · rw [View.read_writes_cons_rows_of_not_mem (o := 16 * n) (W := 16) (hoff := off_eq ⟨n, hk⟩) (hW := rfl) (h := Or.inl hl)]
      exact after_trips 𝒱 c bd i arg1 harg1 arg2 harg2 arg3 harg3 arg4 harg4 arg5 harg5 g a b x f r d k' r' hr n (by omega) hl
    · have hv : k'.val = n := by omega
      rw [load_eq arg1 harg1 x ⟨n, hk⟩ k' hv]
      exact View.read_writes_cons_rows_of_mem (d := ![256, 4096]) VO0_4 f (k0_off1_inb ⟨n, hk⟩) (k0_pay1 g a b (rows x k')) _ (ix2 r d) (ix2 r' d)
        (off_eq ⟨n, hk⟩) (by show r.val = 16 * n + r'.val; omega) rfl

/-- What a point leaves. -/
theorem out_eq (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S256x4096 .bf16) (harg5 : arg5.IsWhole)
    (x0 : Vec F S256x4096 .f32) (x1 : Vec F S1x4096 .f32) (x2 : Vec F S1x1x4096 .f32) (x3 : Vec F S1x1x4096 .f32)
    (r : Fin 256) (d : Fin 4096) (k' : Fin 16) (r' : Fin 16) (hr : r.val = 16 * k'.val + r'.val) :
    out0_A_4 c i arg1 harg1 arg2 harg2 arg3 harg3 arg4 harg4 arg5 harg5 x0 x1 x2 x3 (ix2 r d) = k0_pay1 x1 x2 x3 (rows x0 k') (ix2 r' d) := by
  unfold out0_A_4 kernelRun0_A
  dsimp only
  simp only [View.readAt_eq_ld, harg2.read_unread, harg3.read_unread, harg4.read_unread, View.ld_unit_zero (S := S1x4096) origin2,
    View.ld_unit_zero (S := S1x1x4096) origin3]
  rw [show Scf.trips (0#32) (Scalar.addi 0#32 16#32) 1#32 = 16 by decide +kernel]
  have := r.isLt
  exact after_trips _ c _ i arg1 harg1 arg2 harg2 arg3 harg3 arg4 harg4 arg5 harg5 x1 x2 x3 x0 _ r d k' r' hr 16 le_rfl (by omega)

end Cert.Proof.CtxNorm

end
-- ==== Proof.CtxNorm.Value.lean ====
/- The norm of the context: each token over the root of its mean square, times the gain, times one more than the scale,
   plus the shift. -/
module

public import proofs.«01_k».proof.Defs
public import proofs.«01_k».proof.Proof.CtxNorm.Trips
public import proofs.«01_k».proof.Proof.Gen.Reference12Ideal.Run

@[expose] public section

set_option maxRecDepth 16384

noncomputable section

open Idealize.ShloMosaic Idealize.ShloMosaic.TcCoe Idealize.SL.Sem
open Idealize.ShloMosaic.Pipeline (Dat)

namespace Cert.Proof.CtxNorm

/-- A row's entry, normed and moved. -/
def moved (row : Fin 4096 → EReal) (g a b : EReal) (d : Fin 4096) : EReal :=
  row d * Ideal.rsqrt (Ideal.div (∑ k, row k * row k) (Ideal.ofBits .f32 0x45800000#32) + Ideal.ofBits .f32 0x358637BD#32) * g
    * (1 + a) + b

namespace Plain

open Cert.Reference12Ideal Cert.Reference12Ideal.Gen Cert.Reference12Ideal.Value

/-- The reference's composed term. -/
def composed (x : FVec Ideal S1024x4096 .f32) (g : FVec Ideal S1x4096 .f32) (a b : FVec Ideal S1x1x4096 .f32) : FVec Ideal S1024x4096 .bf16 :=
  truncf .bf16 (shapeCast S1024x4096 (addf (mulf (mulf (mulf (shapeCast S4x256x4096 x shapeCasts_S1024x4096_S4x256x4096)
    (broadcastInDim S4x256x4096 ![0, 1, 2] bcast_S4x256x1_S4x256x4096_0_1_2
      (Host.rsqrt (addf (Host.divf (broadcastInDim S4x256x1 ![0, 1] bcast_S4x256_S4x256x1_0_1
          (Host.reduceAdd (mulf (shapeCast S4x256x4096 x shapeCasts_S1024x4096_S4x256x4096) (shapeCast S4x256x4096 x shapeCasts_S1024x4096_S4x256x4096))
            (constant S_ .f32 0x00000000#32) reducesTo_S4x256x4096_S4x256_d2 h_S_))
          (broadcastInDim S4x256x1 ![] bcast_S_S4x256x1 (constant S_ .f32 0x45800000#32)))
        (broadcastInDim S4x256x1 ![] bcast_S_S4x256x1 (constant S_ .f32 0x358637BD#32))))))
    (broadcastInDim S4x256x4096 ![0, 1, 2] bcast_S1x1x4096_S4x256x4096_0_1_2 (broadcastInDim S1x1x4096 ![1, 2] bcast_S1x4096_S1x1x4096_1_2 g)))
    (broadcastInDim S4x256x4096 ![0, 1, 2] bcast_S1x1x4096_S4x256x4096_0_1_2 (addf (broadcastInDim S1x1x4096 ![] bcast_S_S1x1x4096 (constant S_ .f32 0x3F800000#32)) a)))
    (broadcastInDim S4x256x4096 ![0, 1, 2] bcast_S1x1x4096_S4x256x4096_0_1_2 b)) shapeCasts_S4x256x4096_S1024x4096) bitsLt_bf16_f32

/-- An entry of it. -/
theorem composed_at (x : FVec Ideal S1024x4096 .f32) (g : FVec Ideal S1x4096 .f32) (a b : FVec Ideal S1x1x4096 .f32) (i : S1024x4096.Idx) :
    composed x g a b i = moved (fun k => x (ix2 (i 0) k)) (g (ix2 (0 : Fin 1) (i 1))) (a (ix3 (0 : Fin 1) (0 : Fin 1) (i 1))) (b (ix3 (0 : Fin 1) (0 : Fin 1) (i 1))) (i 1) := by
  unfold composed moved
  pointwise

end Plain

open Cert.Kernel12Ideal Cert.Kernel12Ideal.Gen Cert.Kernel12Ideal.Value

/-- An entry of sixteen normed rows. -/
theorem pay_at (g : FVec Ideal S1x4096 .f32) (a b : FVec Ideal S1x1x4096 .f32) (x : FVec Ideal S16x4096 .f32) (r : Fin 16) (d : Fin 4096) :
    k0_pay1 (F := Ideal) g a b x (ix2 r d)
      = moved (fun k => x (ix2 r k)) (g (ix2 (0 : Fin 1) d)) (a (ix3 (0 : Fin 1) (0 : Fin 1) d)) (b (ix3 (0 : Fin 1) (0 : Fin 1) d)) d := by
  unfold moved
  pointwise [k0_pay1]

variable {F : FTy → Type} [FloatOps F]
variable (m : (ℓ : Loc nD τ sig) → Buf (Elt F) ℓ)

/-- The tiles' places: point `t` is the tile `t` of all tokens. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 2) = t.val ∧ win0_4.index t (1 : Fin 2) = 0)
    ∧ (cfg0.win 4).flush t = true :=
  (by decide +kernel : ∀ t : Fin grid0.N, _)

/-- The tokens point `t` reads. -/
def tokens (c : Dev nD) (t : Fin cfg0.N) : Vec F S256x4096 .f32 := iblk m c 0 t

/-- The gain it reads. -/
def gain (c : Dev nD) (t : Fin cfg0.N) : Vec F S1x4096 .f32 := iblk m c 1 t

/-- The scale. -/
def scale (c : Dev nD) (t : Fin cfg0.N) : Vec F S1x1x4096 .f32 := iblk m c 2 t

/-- The shift. -/
def shift (c : Dev nD) (t : Fin cfg0.N) : Vec F S1x1x4096 .f32 := iblk m c 3 t

/-- A token's entry. -/
theorem tokens_at (c : Dev nD) (t : Fin cfg0.N) (r : Fin 256) (d : Fin 4096) (n : Fin 1024) (hn : n.val = 256 * t.val + r.val) :
    tokens m c t (ix2 r d) = (m ((c : Thread nD τ).loc main_arg0) : Vec F S1024x4096 .f32) (ix2 n d) := by
  obtain ⟨⟨e0, e1⟩, -⟩ := places t
  unfold tokens iblk
  rw [View.read_apply]
  show V m c main_arg0 _ = m (c.tc.loc main_arg0) _
  rw [V_main_arg0]
  congr 1
  funext a
  apply Fin.ext
  match a with
  | ⟨0, _⟩ => show win0_0.index t 0 * 256 + 1 * r.val = n.val; rw [e0]; omega
  | ⟨1, _⟩ => show win0_0.index t 1 * 4096 + 1 * d.val = d.val; rw [e1]; omega

/-- The gain's entry. -/
theorem gain_at (c : Dev nD) (t : Fin cfg0.N) (d : Fin 4096) :
    gain m c t (ix2 (0 : Fin 1) d) = (m ((c : Thread nD τ).loc main_arg1) : Vec F S1x4096 .f32) (ix2 (0 : Fin 1) d) := by
  obtain ⟨-, ⟨e0, e1⟩, -⟩ := places t
  unfold gain iblk
  rw [View.read_apply]
  show V m c main_arg1 _ = m (c.tc.loc main_arg1) _
  rw [V_main_arg1]
  congr 1
  funext a
  apply Fin.ext
  match a with
  | ⟨0, _⟩ => show win0_1.index t 0 * 1 + 1 * 0 = 0; rw [e0]
  | ⟨1, _⟩ => show win0_1.index t 1 * 4096 + 1 * d.val = d.val; rw [e1]; omega

/-- The scale's entry. -/
theorem scale_at (c : Dev nD) (t : Fin cfg0.N) (d : Fin 4096) :
    scale m c t (ix3 (0 : Fin 1) (0 : Fin 1) d) = (m ((c : Thread nD τ).loc main_arg2) : Vec F S1x1x4096 .f32) (ix3 (0 : Fin 1) (0 : Fin 1) d) := by
  obtain ⟨-, -, ⟨e0, e1, e2⟩, -⟩ := places t
  unfold scale iblk
  rw [View.read_apply]
  show V m c main_arg2 _ = m (c.tc.loc main_arg2) _
  rw [V_main_arg2]
  congr 1
  funext a
  apply Fin.ext
  match a with
  | ⟨0, _⟩ => show win0_2.index t 0 * 1 + 1 * 0 = 0; rw [e0]
  | ⟨1, _⟩ => show win0_2.index t 1 * 1 + 1 * 0 = 0; rw [e1]
  | ⟨2, _⟩ => show win0_2.index t 2 * 4096 + 1 * d.val = d.val; rw [e2]; omega

/-- The shift's entry. -/
theorem shift_at (c : Dev nD) (t : Fin cfg0.N) (d : Fin 4096) :
    shift m c t (ix3 (0 : Fin 1) (0 : Fin 1) d) = (m ((c : Thread nD τ).loc main_arg3) : Vec F S1x1x4096 .f32) (ix3 (0 : Fin 1) (0 : Fin 1) d) := by
  obtain ⟨-, -, -, ⟨e0, e1, e2⟩, -⟩ := places t
  unfold shift iblk
  rw [View.read_apply]
  show V m c main_arg3 _ = m (c.tc.loc main_arg3) _
  rw [V_main_arg3]
  congr 1
  funext a
  apply Fin.ext
  match a with
  | ⟨0, _⟩ => show win0_3.index t 0 * 1 + 1 * 0 = 0; rw [e0]
  | ⟨1, _⟩ => show win0_3.index t 1 * 1 + 1 * 0 = 0; rw [e1]
  | ⟨2, _⟩ => show win0_3.index t 2 * 4096 + 1 * d.val = d.val; rw [e2]; omega

/-- Every entry, from the arguments. -/
def normed (x : FVec Ideal S1024x4096 .f32) (g : FVec Ideal S1x4096 .f32) (a b : FVec Ideal S1x1x4096 .f32) : FVec Ideal S1024x4096 .bf16 := fun i =>
  moved (fun k => x (ix2 (i 0) k)) (g (ix2 (0 : Fin 1) (i 1))) (a (ix3 (0 : Fin 1) (0 : Fin 1) (i 1))) (b (ix3 (0 : Fin 1) (0 : Fin 1) (i 1))) (i 1)

/-- The norm of the kernel's arguments. -/
def result (m : (ℓ : Loc nD τ sig) → Buf (Elt Ideal) ℓ) (c : Dev nD) : FVec Ideal S1024x4096 .bf16 :=
  normed (m ((c : Thread nD τ).loc main_arg0)) (m ((c : Thread nD τ).loc main_arg1)) (m ((c : Thread nD τ).loc main_arg2))
    (m ((c : Thread nD τ).loc main_arg3))

/-- What a point computes, placed in the result. -/
theorem tile_at (m : (ℓ : Loc nD τ sig) → Buf (Elt Ideal) ℓ) (c : Dev nD) (t : Fin cfg0.N) (k : Fin 16) (r : Fin 16) (d : Fin 4096)
    (i : S1024x4096.Idx) (h0 : (i 0).val = 256 * t.val + (16 * k.val + r.val)) (h1 : i 1 = d) :
    k0_pay1 (gain m c t) (scale m c t) (shift m c t) (rows (tokens m c t) k) (ix2 r d) = result m c i := by
  rw [pay_at, gain_at, scale_at m c t d, shift_at m c t d]
  unfold result normed
  rw [h1]
  refine (fun {p q : Fin 4096 → EReal} {g a b : EReal} (h : p = q) => (congrArg (fun p => moved p g a b d) h : moved p g a b d = moved q g a b d)) ?_
  funext e
  exact tokens_at m c t (⟨16 * k.val + r.val, by omega⟩ : Fin 256) e (i 0) h0

/-- What a point writes back is its block of the result. -/
theorem flushed_eq (m : (ℓ : Loc nD τ sig) → Buf (Elt Ideal) ℓ) (c : Dev nD) (t : Fin cfg0.N) :
    (dats m 0 c).flushed 4 t = ((cfg0.win 4).blk t).view.read (Elt Ideal) (result m c) := by
  obtain ⟨-, -, -, -, ⟨e0, e1⟩, -⟩ := places t
  rw [flushed4_A]
  funext y
  obtain ⟨r, d, rfl⟩ : ∃ (r : Fin 256) (d : Fin 4096), y = ix2 r d := ⟨y 0, y 1, by funext a; match a with | ⟨0, _⟩ => rfl | ⟨1, _⟩ => rfl⟩
  rw [View.read_apply]
  refine (out_eq c _ _ _ _ _ _ _ _ _ _ _ (tokens m c t) (gain m c t) (scale m c t) (shift m c t) r d ⟨r.val / 16, by omega⟩ ⟨r.val % 16, by omega⟩
    (by show r.val = 16 * (r.val / 16) + r.val % 16; omega)).trans ?_
  exact tile_at m c t ⟨r.val / 16, by omega⟩ ⟨r.val % 16, by omega⟩ d (((cfg0.win 4).blk t).view.emb (ix2 r d))
    (by show win0_4.index t 0 * 256 + 1 * r.val = 256 * t.val + (16 * (r.val / 16) + r.val % 16); rw [e0]; omega)
    (Fin.ext (by show win0_4.index t 1 * 4096 + 1 * d.val = d.val; rw [e1]; omega))

/-- Every entry lies in some point's block. -/
theorem covered (i : S1024x4096.Idx) :
    ∃ t : Fin cfg0.N, (cfg0.win 4).flush t = true ∧ i ∈ ((cfg0.win 4).blk t).view.set := by
  have hN : cfg0.N = 4 := N_0
  have h0 : (i 0).val < 1024 := (i 0).isLt
  have h1 : (i 1).val < 4096 := (i 1).isLt
  have ht : (i 0).val / 256 < cfg0.N := by omega
  obtain ⟨t, et⟩ : ∃ t : Fin cfg0.N, t.val = (i 0).val / 256 := ⟨⟨_, ht⟩, rfl⟩
  obtain ⟨-, -, -, -, ⟨e0, e1⟩, hf⟩ := places t
  refine ⟨t, hf, ?_⟩
  show i ∈ ((View.whole main_v0).slice (win0_4.rect t)).set
  rw [View.set_slice_whole, Rect.mem_set_unit]
  intro a
  match a with
  | ⟨0, _⟩ => show win0_4.index t 0 * 256 ≤ (i 0).val ∧ (i 0).val < win0_4.index t 0 * 256 + 256; rw [e0]; omega
  | ⟨1, _⟩ => show win0_4.index t 1 * 4096 ≤ (i 1).val ∧ (i 1).val < win0_4.index t 1 * 4096 + 4096; rw [e1]; omega

/-- The result array after the run. -/
theorem final (m : (ℓ : Loc nD τ sig) → Buf (Elt Ideal) ℓ) (c : Dev nD) : (dats m 0 c).arrAt 4 cfg0.N = result m c :=
  (dats m 0 c).arrAt_eq_of_cover 4 _ (fun t _ => flushed_eq m c t) covered

/-- The claim. -/
theorem claim : Cert.algebraic_Kernel12Ideal_Reference12Ideal := by
  intro m g m' g' _ hargs
  refine ⟨result m, ?_, ?_⟩
  · exact (θ_run Cert.Kernel12Ideal.defs _ _).mono (fun r h c => ⟨(h c).1.trans (final m c), (h c).2⟩) (run_blocks m g)
  · refine (θ_run Cert.Reference12Ideal.defs _ _).mono (fun r h c => ⟨(h c).1.trans ?_, (h c).2⟩) (Cert.Reference12Ideal.Value.run m' g')
    rw [(hargs c).1, (hargs c).2.1, (hargs c).2.2.1, (hargs c).2.2.2]
    funext i
    exact Plain.composed_at (m (c.tc.loc main_arg0)) (m (c.tc.loc main_arg1)) (m (c.tc.loc main_arg2)) (m (c.tc.loc main_arg3)) i

/-- The reference's frame. -/
theorem frame_reference : Cert.quiescent_Reference12Ideal := by
  intro m g _
  exact (θ_run Cert.Reference12Ideal.defs _ _).mono (fun r h => ⟨fun c => (h c).2, sem_eq_zero_of_no_sems (by decide) _⟩)
    (Cert.Reference12Ideal.Value.run m g)

end Cert.Proof.CtxNorm

end
-- ==== Proof.lean ====
module

public import proofs.«01_k».proof.Defs
public import proofs.«01_k».proof.Proof.Gen.Kernel
public import proofs.«01_k».proof.Proof.Gen.KernelIdeal
public import proofs.«01_k».proof.Proof.Scan.Frame
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gate.Value
public import proofs.«01_k».proof.Proof.Rest.Value
public import proofs.«01_k».proof.Proof.Out.Value
public import proofs.«01_k».proof.Proof.Down.Value
public import proofs.«01_k».proof.Proof.Combine.Value
public import proofs.«01_k».proof.Proof.Norm.Value
public import proofs.«01_k».proof.Proof.Router.Value
public import proofs.«01_k».proof.Proof.Ada.Value
public import proofs.«01_k».proof.Proof.CtxGate.Value
public import proofs.«01_k».proof.Proof.CtxRest.Value
public import proofs.«01_k».proof.Proof.CtxNorm.Value
public import Idealize.ShloMosaic.Adequacy
public import Idealize.ShloMosaic.Init

@[expose] public section

noncomputable section

namespace Cert.Proof

theorem claim : Cert.Claim := ⟨Cert.Kernel.Gen.facts,
  Cert.KernelIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Router.bounds,
  Ada.bounds,
  Scan.frame_kernel,
  Scan.frame_ideal,
  fun m ρ _ => Cert.Kernel2.Gen.frame m ρ,
  fun m ρ _ => Cert.Kernel2Ideal.Gen.frame m ρ,
  Gate.frame_reference,
  fun m ρ _ => Cert.Kernel3.Gen.frame m ρ,
  fun m ρ _ => Cert.Kernel3Ideal.Gen.frame m ρ,
  Rest.frame_reference,
  fun m ρ _ => Cert.Kernel4.Gen.frame m ρ,
  fun m ρ _ => Cert.Kernel4Ideal.Gen.frame m ρ,
  Out.frame_reference,
  fun m ρ _ => Cert.Kernel5.Gen.frame m ρ,
  fun m ρ _ => Cert.Kernel5Ideal.Gen.frame m ρ,
  Down.frame_reference,
  fun m ρ _ => Cert.Kernel6.Gen.frame m ρ,
  fun m ρ _ => Cert.Kernel6Ideal.Gen.frame m ρ,
  Combine.frame_reference,
  fun m ρ _ => Cert.Kernel7.Gen.frame m ρ,
  fun m ρ _ => Cert.Kernel7Ideal.Gen.frame m ρ,
  Norm.frame_reference,
  fun m ρ _ => Cert.Kernel8.Gen.frame m ρ,
  fun m ρ _ => Cert.Kernel8Ideal.Gen.frame m ρ,
  fun m ρ _ => Cert.Kernel8Ideal.Gen.frame m ρ,
  Router.frame_reference,
  fun m ρ _ => Router.frame_reference m ρ trivial,
  fun m ρ _ => Cert.Kernel9.Gen.frame m ρ,
  fun m ρ _ => Cert.Kernel9Ideal.Gen.frame m ρ,
  fun m ρ _ => Cert.Kernel9Ideal.Gen.frame m ρ,
  Ada.frame_reference,
  fun m ρ _ => Ada.frame_reference m ρ trivial,
  fun m ρ _ => Cert.Kernel10.Gen.frame m ρ,
  fun m ρ _ => Cert.Kernel10Ideal.Gen.frame m ρ,
  CtxGate.frame_reference,
  fun m ρ _ => Cert.Kernel11.Gen.frame m ρ,
  fun m ρ _ => Cert.Kernel11Ideal.Gen.frame m ρ,
  CtxRest.frame_reference,
  fun m ρ _ => Cert.Kernel12.Gen.frame m ρ,
  fun m ρ _ => Cert.Kernel12Ideal.Gen.frame m ρ,
  CtxNorm.frame_reference,
  trivial,
  trivial,
  Gate.claim,
  trivial,
  Rest.claim,
  trivial,
  Out.claim,
  trivial,
  Down.claim,
  trivial,
  Combine.claim,
  trivial,
  Norm.claim,
  trivial,
  Router.claim,
  trivial,
  Ada.claim,
  trivial,
  CtxGate.claim,
  trivial,
  CtxRest.claim,
  trivial,
  CtxNorm.claim⟩

end Cert.Proof

end
